-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S32x33 : Shape := ⟨2, ![32, 33]⟩
abbrev S_ : Shape := ⟨0, ![]⟩
abbrev S1x33 : Shape := ⟨2, ![1, 33]⟩
abbrev S33 : Shape := ⟨1, ![33]⟩
abbrev S4096x4096 : Shape := ⟨2, ![4096, 4096]⟩
abbrev S16x4 : Shape := ⟨2, ![16, 4]⟩
abbrev S1 : Shape := ⟨1, ![1]⟩
abbrev S1x1 : Shape := ⟨2, ![1, 1]⟩
abbrev S32x4096 : Shape := ⟨2, ![32, 4096]⟩
abbrev S128x256 : Shape := ⟨2, ![128, 256]⟩
abbrev S512x4096 : Shape := ⟨2, ![512, 4096]⟩
abbrev S512x256 : Shape := ⟨2, ![512, 256]⟩
abbrev S384x4096 : Shape := ⟨2, ![384, 4096]⟩
abbrev S384x256 : Shape := ⟨2, ![384, 256]⟩

abbrev nBuf : Space → Nat
  | .hbm => 25
  | .vmem => 4
  | .smem => 1
  | _ => 0

abbrev bufTy : (tb : Table) → Fin (tcTables nBuf tb) → BufTy
  | .hbm, ⟨0, _⟩ => ⟨S128x4096, .bf16⟩
  | .hbm, ⟨1, _⟩ => ⟨S4096x256, .bf16⟩
  | .hbm, ⟨2, _⟩ => ⟨S32x33, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x33, .i32⟩
  | .hbm, ⟨23, _⟩ => ⟨S33, .i32⟩
  | .hbm, ⟨24, _⟩ => ⟨S4096x256, .f32⟩
  | .local _ .vmem, ⟨0, _⟩ => ⟨S128x4096, .bf16⟩
  | .local _ .vmem, ⟨1, _⟩ => ⟨S4096x256, .bf16⟩
  | .local _ .vmem, ⟨2, _⟩ => ⟨S4096x256, .f32⟩
  | .local _ .vmem, ⟨3, _⟩ => ⟨S4096x4096, .bf16⟩
  | .local _ .smem, ⟨0, _⟩ => ⟨S33, .i32⟩
  | _, _ => ⟨S128x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 260 → Bool
  | ⟨i, _⟩ => dmaSemScopedAt i

abbrev sig : RefSig :=
  (ofTc nBuf bufTy 1 260 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_c_5 : Ref sig .tc := ⟨.hbm, 15, rfl⟩
abbrev main_v8 : Ref sig .tc := ⟨.hbm, 16, rfl⟩
abbrev main_c_6 : Ref sig .tc := ⟨.hbm, 17, rfl⟩
abbrev main_c_7 : Ref sig .tc := ⟨.hbm, 18, rfl⟩
abbrev main_v9 : Ref sig .tc := ⟨.hbm, 19, rfl⟩
abbrev main_c_8 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_dev3 (v1 : BitVec 32) : Nat :=
  let c0_i32_9 : BitVec 32 := 0#32
  let c1_i32_8 : BitVec 32 := 1#32
  let v7 : BitVec 32 := Scalar.muli v1 c1_i32_8
  let v8 : BitVec 32 := Scalar.addi c0_i32_9 v7
  v8.toNat
def k0_dev4 (v0 : BitVec 32) : Nat :=
  let c0_i32_18 : BitVec 32 := 0#32
  let c1_i32_17 : BitVec 32 := 1#32
  let v15 : BitVec 32 := Scalar.muli v0 c1_i32_17
  let v16 : BitVec 32 := Scalar.addi c0_i32_18 v15
  v16.toNat
def k0_dev5 (v1 : BitVec 32) : Nat :=
  let c0_i32_27 : BitVec 32 := 0#32
  let c1_i32_26 : BitVec 32 := 1#32
  let v23 : BitVec 32 := Scalar.muli v1 c1_i32_26
  let v24 : BitVec 32 := Scalar.addi c0_i32_27 v23
  v24.toNat
def k0_dev6 (v0 : BitVec 32) : Nat :=
  let c0_i32_35 : BitVec 32 := 0#32
  let c1_i32_34 : BitVec 32 := 1#32
  let v31 : BitVec 32 := Scalar.muli v0 c1_i32_34
  let v32 : BitVec 32 := Scalar.addi c0_i32_35 v31
  v32.toNat
def k0_dev7 (v1 : BitVec 32) : Nat :=
  let c0_i32_44 : BitVec 32 := 0#32
  let c1_i32_43 : BitVec 32 := 1#32
  let v39 : BitVec 32 := Scalar.muli v1 c1_i32_43
  let v40 : BitVec 32 := Scalar.addi c0_i32_44 v39
  v40.toNat
def k0_dev8 (v0 : BitVec 32) : Nat :=
  let c0_i32_52 : BitVec 32 := 0#32
  let c1_i32_51 : BitVec 32 := 1#32
  let v47 : BitVec 32 := Scalar.muli v0 c1_i32_51
  let v48 : BitVec 32 := Scalar.addi c0_i32_52 v47
  v48.toNat
def k0_dev9 (v1 : BitVec 32) : Nat :=
  let c0_i32_60 : BitVec 32 := 0#32
  let c1_i32_59 : BitVec 32 := 1#32
  let v55 : BitVec 32 := Scalar.muli v1 c1_i32_59
  let v56 : BitVec 32 := Scalar.addi c0_i32_60 v55
  v56.toNat
def k0_dev10 (v0 : BitVec 32) : Nat :=
  let c0_i32_68 : BitVec 32 := 0#32
  let c1_i32_67 : BitVec 32 := 1#32
  let v63 : BitVec 32 := Scalar.muli v0 c1_i32_67
  let v64 : BitVec 32 := Scalar.addi c0_i32_68 v63
  v64.toNat
def k0_off1 (d78 : Dev nD) : Fin 2 → Nat :=
  let v78 : BitVec 32 := Dev.word d78
  let c1_i32_78 : BitVec 32 := 1#32
  let v79 : BitVec 32 := Scalar.divsi v78 c1_i32_78
  let c32_i32_77 : BitVec 32 := 32#32
  let v80 : BitVec 32 := Scalar.remsi v79 c32_i32_77
  let c128_i32_79 : BitVec 32 := 128#32
  let v81 : BitVec 32 := Scalar.muli v80 c128_i32_79
  let v82 : Index := Scalar.indexCast v81
  let c0_80 : Index := 0#32
  ![v82.toNat, 0]
def k0_dev11 (v1 : BitVec 32) : Nat :=
  let c0_i32_96 : BitVec 32 := 0#32
  let c1_i32_95 : BitVec 32 := 1#32
  let v90 : BitVec 32 := Scalar.muli v1 c1_i32_95
  let v91 : BitVec 32 := Scalar.addi c0_i32_96 v90
  v91.toNat
def k0_dev12 (v0 : BitVec 32) : Nat :=
  let c0_i32_115 : BitVec 32 := 0#32
  let c1_i32_114 : BitVec 32 := 1#32
  let v104 : BitVec 32 := Scalar.muli v0 c1_i32_114
  let v105 : BitVec 32 := Scalar.addi c0_i32_115 v104
  v105.toNat
def k0_dev13 (v1 : BitVec 32) : Nat :=
  let c0_i32_134 : BitVec 32 := 0#32
  let c1_i32_133 : BitVec 32 := 1#32
  let v118 : BitVec 32 := Scalar.muli v1 c1_i32_133
  let v119 : BitVec 32 := Scalar.addi c0_i32_134 v118
  v119.toNat
def k0_dev14 (v0 : BitVec 32) : Nat :=
  let c0_i32_153 : BitVec 32 := 0#32
  let c1_i32_152 : BitVec 32 := 1#32
  let v132 : BitVec 32 := Scalar.muli v0 c1_i32_152
  let v133 : BitVec 32 := Scalar.addi c0_i32_153 v132
  v133.toNat
def k0_dev15 (v1 : BitVec 32) : Nat :=
  let c0_i32_172 : BitVec 32 := 0#32
  let c1_i32_171 : BitVec 32 := 1#32
  let v146 : BitVec 32 := Scalar.muli v1 c1_i32_171
  let v147 : BitVec 32 := Scalar.addi c0_i32_172 v146
  v147.toNat
def k0_dev16 (v0 : BitVec 32) : Nat :=
  let c0_i32_191 : BitVec 32 := 0#32
  let c1_i32_190 : BitVec 32 := 1#32
  let v160 : BitVec 32 := Scalar.muli v0 c1_i32_190
  let v161 : BitVec 32 := Scalar.addi c0_i32_191 v160
  v161.toNat
def k0_dev17 (v1 : BitVec 32) : Nat :=
  let c0_i32_210 : BitVec 32 := 0#32
  let c1_i32_209 : BitVec 32 := 1#32
  let v174 : BitVec 32 := Scalar.muli v1 c1_i32_209
  let v175 : BitVec 32 := Scalar.addi c0_i32_210 v174
  v175.toNat
def k0_dev18 (v0 : BitVec 32) : Nat :=
  let c0_i32_229 : BitVec 32 := 0#32
  let c1_i32_228 : BitVec 32 := 1#32
  let v188 : BitVec 32 := Scalar.muli v0 c1_i32_228
  let v189 : BitVec 32 := Scalar.addi c0_i32_229 v188
  v189.toNat
def k0_dev19 (v1 : BitVec 32) : Nat :=
  let c0_i32_248 : BitVec 32 := 0#32
  let c1_i32_247 : BitVec 32 := 1#32
  let v202 : BitVec 32 := Scalar.muli v1 c1_i32_247
  let v203 : BitVec 32 := Scalar.addi c0_i32_248 v202
  v203.toNat
def k0_dev20 (v0 : BitVec 32) : Nat :=
  let c0_i32_267 : BitVec 32 := 0#32
  let c1_i32_266 : BitVec 32 := 1#32
  let v216 : BitVec 32 := Scalar.muli v0 c1_i32_266
  let v217 : BitVec 32 := Scalar.addi c0_i32_267 v216
  v217.toNat
def k0_dev21 (v1 : BitVec 32) : Nat :=
  let c0_i32_286 : BitVec 32 := 0#32
  let c1_i32_285 : BitVec 32 := 1#32
  let v230 : BitVec 32 := Scalar.muli v1 c1_i32_285
  let v231 : BitVec 32 := Scalar.addi c0_i32_286 v230
  v231.toNat
def k0_dev22 (v0 : BitVec 32) : Nat :=
  let c0_i32_305 : BitVec 32 := 0#32
  let c1_i32_304 : BitVec 32 := 1#32
  let v244 : BitVec 32 := Scalar.muli v0 c1_i32_304
  let v245 : BitVec 32 := Scalar.addi c0_i32_305 v244
  v245.toNat
def k0_dev23 (v1 : BitVec 32) : Nat :=
  let c0_i32_324 : BitVec 32 := 0#32
  let c1_i32_323 : BitVec 32 := 1#32
  let v258 : BitVec 32 := Scalar.muli v1 c1_i32_323
  let v259 : BitVec 32 := Scalar.addi c0_i32_324 v258
  v259.toNat
def k0_dev24 (v0 : BitVec 32) : Nat :=
  let c0_i32_343 : BitVec 32 := 0#32
  let c1_i32_342 : BitVec 32 := 1#32
  let v272 : BitVec 32 := Scalar.muli v0 c1_i32_342
  let v273 : BitVec 32 := Scalar.addi c0_i32_343 v272
  v273.toNat
def k0_dev25 (v1 : BitVec 32) : Nat :=
  let c0_i32_362 : BitVec 32 := 0#32
  let c1_i32_361 : BitVec 32 := 1#32
  let v286 : BitVec 32 := Scalar.muli v1 c1_i32_361
  let v287 : BitVec 32 := Scalar.addi c0_i32_362 v286
  v287.toNat
def k0_dev26 (v0 : BitVec 32) : Nat :=
  let c0_i32_381 : BitVec 32 := 0#32
  let c1_i32_380 : BitVec 32 := 1#32
  let v300 : BitVec 32 := Scalar.muli v0 c1_i32_380
  let v301 : BitVec 32 := Scalar.addi c0_i32_381 v300
  v301.toNat
def k0_dev27 (v1 : BitVec 32) : Nat :=
  let c0_i32_400 : BitVec 32 := 0#32
  let c1_i32_399 : BitVec 32 := 1#32
  let v314 : BitVec 32 := Scalar.muli v1 c1_i32_399
  let v315 : BitVec 32 := Scalar.addi c0_i32_400 v314
  v315.toNat
def k0_dev28 (v0 : BitVec 32) : Nat :=
  let c0_i32_419 : BitVec 32 := 0#32
  let c1_i32_418 : BitVec 32 := 1#32
  let v328 : BitVec 32 := Scalar.muli v0 c1_i32_418
  let v329 : BitVec 32 := Scalar.addi c0_i32_419 v328
  v329.toNat
def k0_dev29 (v1 : BitVec 32) : Nat :=
  let c0_i32_438 : BitVec 32 := 0#32
  let c1_i32_437 : BitVec 32 := 1#32
  let v342 : BitVec 32 := Scalar.muli v1 c1_i32_437
  let v343 : BitVec 32 := Scalar.addi c0_i32_438 v342
  v343.toNat
def k0_dev30 (v0 : BitVec 32) : Nat :=
  let c0_i32_457 : BitVec 32 := 0#32
  let c1_i32_456 : BitVec 32 := 1#32
  let v356 : BitVec 32 := Scalar.muli v0 c1_i32_456
  let v357 : BitVec 32 := Scalar.addi c0_i32_457 v356
  v357.toNat
def k0_dev31 (v1 : BitVec 32) : Nat :=
  let c0_i32_476 : BitVec 32 := 0#32
  let c1_i32_475 : BitVec 32 := 1#32
  let v370 : BitVec 32 := Scalar.muli v1 c1_i32_475
  let v371 : BitVec 32 := Scalar.addi c0_i32_476 v370
  v371.toNat
def k0_dev32 (v0 : BitVec 32) : Nat :=
  let c0_i32_495 : BitVec 32 := 0#32
  let c1_i32_494 : BitVec 32 := 1#32
  let v384 : BitVec 32 := Scalar.muli v0 c1_i32_494
  let v385 : BitVec 32 := Scalar.addi c0_i32_495 v384
  v385.toNat
def k0_dev33 (v1 : BitVec 32) : Nat :=
  let c0_i32_514 : BitVec 32 := 0#32
  let c1_i32_513 : BitVec 32 := 1#32
  let v398 : BitVec 32 := Scalar.muli v1 c1_i32_513
  let v399 : BitVec 32 := Scalar.addi c0_i32_514 v398
  v399.toNat
def k0_dev34 (v0 : BitVec 32) : Nat :=
  let c0_i32_533 : BitVec 32 := 0#32
  let c1_i32_532 : BitVec 32 := 1#32
  let v412 : BitVec 32 := Scalar.muli v0 c1_i32_532
  let v413 : BitVec 32 := Scalar.addi c0_i32_533 v412
  v413.toNat
def k0_dev35 (v1 : BitVec 32) : Nat :=
  let c0_i32_551 : BitVec 32 := 0#32
  let c1_i32_550 : BitVec 32 := 1#32
  let v426 : BitVec 32 := Scalar.muli v1 c1_i32_550
  let v427 : BitVec 32 := Scalar.addi c0_i32_551 v426
  v427.toNat
def k0_dev36 (v0 : BitVec 32) : Nat :=
  let c0_i32_570 : BitVec 32 := 0#32
  let c1_i32_569 : BitVec 32 := 1#32
  let v440 : BitVec 32 := Scalar.muli v0 c1_i32_569
  let v441 : BitVec 32 := Scalar.addi c0_i32_570 v440
  v441.toNat
def k0_dev37 (v1 : BitVec 32) : Nat :=
  let c0_i32_589 : BitVec 32 := 0#32
  let c1_i32_588 : BitVec 32 := 1#32
  let v454 : BitVec 32 := Scalar.muli v1 c1_i32_588
  let v455 : BitVec 32 := Scalar.addi c0_i32_589 v454
  v455.toNat
def k0_dev38 (v0 : BitVec 32) : Nat :=
  let c0_i32_608 : BitVec 32 := 0#32
  let c1_i32_607 : BitVec 32 := 1#32
  let v468 : BitVec 32 := Scalar.muli v0 c1_i32_607
  let v469 : BitVec 32 := Scalar.addi c0_i32_608 v468
  v469.toNat
def k0_dev39 (v1 : BitVec 32) : Nat :=
  let c0_i32_627 : BitVec 32 := 0#32
  let c1_i32_626 : BitVec 32 := 1#32
  let v482 : BitVec 32 := Scalar.muli v1 c1_i32_626
  let v483 : BitVec 32 := Scalar.addi c0_i32_627 v482
  v483.toNat
def k0_dev40 (v0 : BitVec 32) : Nat :=
  let c0_i32_646 : BitVec 32 := 0#32
  let c1_i32_645 : BitVec 32 := 1#32
  let v496 : BitVec 32 := Scalar.muli v0 c1_i32_645
  let v497 : BitVec 32 := Scalar.addi c0_i32_646 v496
  v497.toNat
def k0_dev41 (v1 : BitVec 32) : Nat :=
  let c0_i32_665 : BitVec 32 := 0#32
  let c1_i32_664 : BitVec 32 := 1#32
  let v510 : BitVec 32 := Scalar.muli v1 c1_i32_664
  let v511 : BitVec 32 := Scalar.addi c0_i32_665 v510
  v511.toNat
def k0_dev42 (v0 : BitVec 32) : Nat :=
  let c0_i32_684 : BitVec 32 := 0#32
  let c1_i32_683 : BitVec 32 := 1#32
  let v524 : BitVec 32 := Scalar.muli v0 c1_i32_683
  let v525 : BitVec 32 := Scalar.addi c0_i32_684 v524
  v525.toNat
def k0_off2 (v538 : BitVec 32) : Fin 2 → Nat :=
  let c128_i32_693 : BitVec 32 := 128#32
  let v540 : BitVec 32 := Scalar.muli v538 c128_i32_693
  let v541 : Index := Scalar.indexCast v540
  let c0_694 : Index := 0#32
  ![v541.toNat, 0]

def k0_chk3 (v538 : BitVec 32) : Prop :=
  (∀ a, (k0_off2 v538) a + S128x256.size a ≤ S4096x256.size a)
theorem k0_off2_inb : ∀ (v538 : BitVec 32) (k0_hw3 : k0_chk3 v538), ∀ a, (k0_off2 v538) a + S128x256.size a ≤ S4096x256.size a := fun v538 k0_hw3 => k0_hw3

def k0_off3 (v543 : BitVec 32) : Fin 2 → Nat :=
  let c128_i32_695 : BitVec 32 := 128#32
  let v545 : BitVec 32 := Scalar.muli v543 c128_i32_695
  let v546 : Index := Scalar.indexCast v545
  let c0_696 : Index := 0#32
  ![v546.toNat, 0]

def k0_chk4 (v543 : BitVec 32) : Prop :=
  (∀ a, (k0_off3 v543) a + S128x256.size a ≤ S4096x256.size a)
theorem k0_off3_inb : ∀ (v543 : BitVec 32) (k0_hw4 : k0_chk4 v543), ∀ a, (k0_off3 v543) a + S128x256.size a ≤ S4096x256.size a := fun v543 k0_hw4 => k0_hw4

def k0_off4 (v548 : BitVec 32) : Fin 2 → Nat :=
  let c128_i32_697 : BitVec 32 := 128#32
  let v550 : BitVec 32 := Scalar.muli v548 c128_i32_697
  let v551 : Index := Scalar.indexCast v550
  let c0_698 : Index := 0#32
  ![v551.toNat, 0]

def k0_chk5 (v548 : BitVec 32) : Prop :=
  (∀ a, (k0_off4 v548) a + S128x256.size a ≤ S4096x256.size a)
theorem k0_off4_inb : ∀ (v548 : BitVec 32) (k0_hw5 : k0_chk5 v548), ∀ a, (k0_off4 v548) a + S128x256.size a ≤ S4096x256.size a := fun v548 k0_hw5 => k0_hw5

def k0_off5 (v553 : BitVec 32) : Fin 2 → Nat :=
  let c128_i32_699 : BitVec 32 := 128#32
  let v555 : BitVec 32 := Scalar.muli v553 c128_i32_699
  let v556 : Index := Scalar.indexCast v555
  let c0_700 : Index := 0#32
  ![v556.toNat, 0]

def k0_chk6 (v553 : BitVec 32) : Prop :=
  (∀ a, (k0_off5 v553) a + S128x256.size a ≤ S4096x256.size a)
theorem k0_off5_inb : ∀ (v553 : BitVec 32) (k0_hw6 : k0_chk6 v553), ∀ a, (k0_off5 v553) a + S128x256.size a ≤ S4096x256.size a := fun v553 k0_hw6 => k0_hw6

def k0_off6 (v564 : BitVec 32) : Fin 2 → Nat :=
  let c128_i32_706 : BitVec 32 := 128#32
  let v566 : BitVec 32 := Scalar.muli v564 c128_i32_706
  let v567 : Index := Scalar.indexCast v566
  let c0_707 : Index := 0#32
  ![v567.toNat, 0]

def k0_chk7 (v564 : BitVec 32) : Prop :=
  (∀ a, (k0_off6 v564) a + S128x256.size a ≤ S4096x256.size a)
theorem k0_off6_inb : ∀ (v564 : BitVec 32) (k0_hw7 : k0_chk7 v564), ∀ a, (k0_off6 v564) a + S128x256.size a ≤ S4096x256.size a := fun v564 k0_hw7 => k0_hw7

def k0_off7 (v569 : BitVec 32) : Fin 2 → Nat :=
  let c128_i32_708 : BitVec 32 := 128#32
  let v571 : BitVec 32 := Scalar.muli v569 c128_i32_708
  let v572 : Index := Scalar.indexCast v571
  let c0_709 : Index := 0#32
  ![v572.toNat, 0]

def k0_chk8 (v569 : BitVec 32) : Prop :=
  (∀ a, (k0_off7 v569) a + S128x256.size a ≤ S4096x256.size a)
theorem k0_off7_inb : ∀ (v569 : BitVec 32) (k0_hw8 : k0_chk8 v569), ∀ a, (k0_off7 v569) a + S128x256.size a ≤ S4096x256.size a := fun v569 k0_hw8 => k0_hw8

def k0_off8 (v574 : BitVec 32) : Fin 2 → Nat :=
  let c128_i32_710 : BitVec 32 := 128#32
  let v576 : BitVec 32 := Scalar.muli v574 c128_i32_710
  let v577 : Index := Scalar.indexCast v576
  let c0_711 : Index := 0#32
  ![v577.toNat, 0]

def k0_chk9 (v574 : BitVec 32) : Prop :=
  (∀ a, (k0_off8 v574) a + S128x256.size a ≤ S4096x256.size a)
theorem k0_off8_inb : ∀ (v574 : BitVec 32) (k0_hw9 : k0_chk9 v574), ∀ a, (k0_off8 v574) a + S128x256.size a ≤ S4096x256.size a := fun v574 k0_hw9 => k0_hw9

def k0_off9 (v579 : BitVec 32) : Fin 2 → Nat :=
  let c128_i32_712 : BitVec 32 := 128#32
  let v581 : BitVec 32 := Scalar.muli v579 c128_i32_712
  let v582 : Index := Scalar.indexCast v581
  let c0_713 : Index := 0#32
  ![v582.toNat, 0]

def k0_chk10 (v579 : BitVec 32) : Prop :=
  (∀ a, (k0_off9 v579) a + S128x256.size a ≤ S4096x256.size a)
theorem k0_off9_inb : ∀ (v579 : BitVec 32) (k0_hw10 : k0_chk10 v579), ∀ a, (k0_off9 v579) a + S128x256.size a ≤ S4096x256.size a := fun v579 k0_hw10 => k0_hw10

def k0_dev43 (v1 : BitVec 32) : Nat :=
  let c0_i32_728 : BitVec 32 := 0#32
  let c1_i32_727 : BitVec 32 := 1#32
  let v590 : BitVec 32 := Scalar.muli v1 c1_i32_727
  let v591 : BitVec 32 := Scalar.addi c0_i32_728 v590
  v591.toNat
def k0_dev44 (v0 : BitVec 32) : Nat :=
  let c0_i32_747 : BitVec 32 := 0#32
  let c1_i32_746 : BitVec 32 := 1#32
  let v604 : BitVec 32 := Scalar.muli v0 c1_i32_746
  let v605 : BitVec 32 := Scalar.addi c0_i32_747 v604
  v605.toNat
def k0_dev45 (v1 : BitVec 32) : Nat :=
  let c0_i32_766 : BitVec 32 := 0#32
  let c1_i32_765 : BitVec 32 := 1#32
  let v618 : BitVec 32 := Scalar.muli v1 c1_i32_765
  let v619 : BitVec 32 := Scalar.addi c0_i32_766 v618
  v619.toNat
def k0_dev46 (v0 : BitVec 32) : Nat :=
  let c0_i32_785 : BitVec 32 := 0#32
  let c1_i32_784 : BitVec 32 := 1#32
  let v632 : BitVec 32 := Scalar.muli v0 c1_i32_784
  let v633 : BitVec 32 := Scalar.addi c0_i32_785 v632
  v633.toNat
def k0_dev47 (v1 : BitVec 32) : Nat :=
  let c0_i32_804 : BitVec 32 := 0#32
  let c1_i32_803 : BitVec 32 := 1#32
  let v646 : BitVec 32 := Scalar.muli v1 c1_i32_803
  let v647 : BitVec 32 := Scalar.addi c0_i32_804 v646
  v647.toNat
def k0_dev48 (v0 : BitVec 32) : Nat :=
  let c0_i32_823 : BitVec 32 := 0#32
  let c1_i32_822 : BitVec 32 := 1#32
  let v660 : BitVec 32 := Scalar.muli v0 c1_i32_822
  let v661 : BitVec 32 := Scalar.addi c0_i32_823 v660
  v661.toNat
def k0_dev49 (v1 : BitVec 32) : Nat :=
  let c0_i32_842 : BitVec 32 := 0#32
  let c1_i32_841 : BitVec 32 := 1#32
  let v674 : BitVec 32 := Scalar.muli v1 c1_i32_841
  let v675 : BitVec 32 := Scalar.addi c0_i32_842 v674
  v675.toNat
def k0_dev50 (v0 : BitVec 32) : Nat :=
  let c0_i32_861 : BitVec 32 := 0#32
  let c1_i32_860 : BitVec 32 := 1#32
  let v688 : BitVec 32 := Scalar.muli v0 c1_i32_860
  let v689 : BitVec 32 := Scalar.addi c0_i32_861 v688
  v689.toNat
def k0_dev51 (v1 : BitVec 32) : Nat :=
  let c0_i32_879 : BitVec 32 := 0#32
  let c1_i32_878 : BitVec 32 := 1#32
  let v702 : BitVec 32 := Scalar.muli v1 c1_i32_878
  let v703 : BitVec 32 := Scalar.addi c0_i32_879 v702
  v703.toNat
def k0_dev52 (v0 : BitVec 32) : Nat :=
  let c0_i32_898 : BitVec 32 := 0#32
  let c1_i32_897 : BitVec 32 := 1#32
  let v716 : BitVec 32 := Scalar.muli v0 c1_i32_897
  let v717 : BitVec 32 := Scalar.addi c0_i32_898 v716
  v717.toNat
def k0_dev53 (v1 : BitVec 32) : Nat :=
  let c0_i32_917 : BitVec 32 := 0#32
  let c1_i32_916 : BitVec 32 := 1#32
  let v730 : BitVec 32 := Scalar.muli v1 c1_i32_916
  let v731 : BitVec 32 := Scalar.addi c0_i32_917 v730
  v731.toNat
def k0_dev54 (v0 : BitVec 32) : Nat :=
  let c0_i32_936 : BitVec 32 := 0#32
  let c1_i32_935 : BitVec 32 := 1#32
  let v744 : BitVec 32 := Scalar.muli v0 c1_i32_935
  let v745 : BitVec 32 := Scalar.addi c0_i32_936 v744
  v745.toNat
def k0_dev55 (v1 : BitVec 32) : Nat :=
  let c0_i32_955 : BitVec 32 := 0#32
  let c1_i32_954 : BitVec 32 := 1#32
  let v758 : BitVec 32 := Scalar.muli v1 c1_i32_954
  let v759 : BitVec 32 := Scalar.addi c0_i32_955 v758
  v759.toNat
def k0_dev56 (v0 : BitVec 32) : Nat :=
  let c0_i32_974 : BitVec 32 := 0#32
  let c1_i32_973 : BitVec 32 := 1#32
  let v772 : BitVec 32 := Scalar.muli v0 c1_i32_973
  let v773 : BitVec 32 := Scalar.addi c0_i32_974 v772
  v773.toNat
def k0_dev57 (v1 : BitVec 32) : Nat :=
  let c0_i32_993 : BitVec 32 := 0#32
  let c1_i32_992 : BitVec 32 := 1#32
  let v786 : BitVec 32 := Scalar.muli v1 c1_i32_992
  let v787 : BitVec 32 := Scalar.addi c0_i32_993 v786
  v787.toNat
def k0_dev58 (v0 : BitVec 32) : Nat :=
  let c0_i32_1012 : BitVec 32 := 0#32
  let c1_i32_1011 : BitVec 32 := 1#32
  let v800 : BitVec 32 := Scalar.muli v0 c1_i32_1011
  let v801 : BitVec 32 := Scalar.addi c0_i32_1012 v800
  v801.toNat
def k0_dev59 (v1 : BitVec 32) : Nat :=
  let c0_i32_1030 : BitVec 32 := 0#32
  let c1_i32_1029 : BitVec 32 := 1#32
  let v814 : BitVec 32 := Scalar.muli v1 c1_i32_1029
  let v815 : BitVec 32 := Scalar.addi c0_i32_1030 v814
  v815.toNat
def k0_dev60 (v0 : BitVec 32) : Nat :=
  let c0_i32_1049 : BitVec 32 := 0#32
  let c1_i32_1048 : BitVec 32 := 1#32
  let v828 : BitVec 32 := Scalar.muli v0 c1_i32_1048
  let v829 : BitVec 32 := Scalar.addi c0_i32_1049 v828
  v829.toNat
def k0_dev61 (v1 : BitVec 32) : Nat :=
  let c0_i32_1068 : BitVec 32 := 0#32
  let c1_i32_1067 : BitVec 32 := 1#32
  let v842 : BitVec 32 := Scalar.muli v1 c1_i32_1067
  let v843 : BitVec 32 := Scalar.addi c0_i32_1068 v842
  v843.toNat
def k0_dev62 (v0 : BitVec 32) : Nat :=
  let c0_i32_1087 : BitVec 32 := 0#32
  let c1_i32_1086 : BitVec 32 := 1#32
  let v856 : BitVec 32 := Scalar.muli v0 c1_i32_1086
  let v857 : BitVec 32 := Scalar.addi c0_i32_1087 v856
  v857.toNat
def k0_dev63 (v1 : BitVec 32) : Nat :=
  let c0_i32_1106 : BitVec 32 := 0#32
  let c1_i32_1105 : BitVec 32 := 1#32
  let v870 : BitVec 32 := Scalar.muli v1 c1_i32_1105
  let v871 : BitVec 32 := Scalar.addi c0_i32_1106 v870
  v871.toNat
def k0_dev64 (v0 : BitVec 32) : Nat :=
  let c0_i32_1125 : BitVec 32 := 0#32
  let c1_i32_1124 : BitVec 32 := 1#32
  let v884 : BitVec 32 := Scalar.muli v0 c1_i32_1124
  let v885 : BitVec 32 := Scalar.addi c0_i32_1125 v884
  v885.toNat
def k0_dev65 (v1 : BitVec 32) : Nat :=
  let c0_i32_1144 : BitVec 32 := 0#32
  let c1_i32_1143 : BitVec 32 := 1#32
  let v898 : BitVec 32 := Scalar.muli v1 c1_i32_1143
  let v899 : BitVec 32 := Scalar.addi c0_i32_1144 v898
  v899.toNat
def k0_dev66 (v0 : BitVec 32) : Nat :=
  let c0_i32_1163 : BitVec 32 := 0#32
  let c1_i32_1162 : BitVec 32 := 1#32
  let v912 : BitVec 32 := Scalar.muli v0 c1_i32_1162
  let v913 : BitVec 32 := Scalar.addi c0_i32_1163 v912
  v913.toNat
def k0_dev67 (v1 : BitVec 32) : Nat :=
  let c0_i32_1181 : BitVec 32 := 0#32
  let c1_i32_1180 : BitVec 32 := 1#32
  let v926 : BitVec 32 := Scalar.muli v1 c1_i32_1180
  let v927 : BitVec 32 := Scalar.addi c0_i32_1181 v926
  v927.toNat
def k0_dev68 (v0 : BitVec 32) : Nat :=
  let c0_i32_1200 : BitVec 32 := 0#32
  let c1_i32_1199 : BitVec 32 := 1#32
  let v940 : BitVec 32 := Scalar.muli v0 c1_i32_1199
  let v941 : BitVec 32 := Scalar.addi c0_i32_1200 v940
  v941.toNat
def k0_dev69 (v1 : BitVec 32) : Nat :=
  let c0_i32_1219 : BitVec 32 := 0#32
  let c1_i32_1218 : BitVec 32 := 1#32
  let v954 : BitVec 32 := Scalar.muli v1 c1_i32_1218
  let v955 : BitVec 32 := Scalar.addi c0_i32_1219 v954
  v955.toNat
def k0_dev70 (v0 : BitVec 32) : Nat :=
  let c0_i32_1238 : BitVec 32 := 0#32
  let c1_i32_1237 : BitVec 32 := 1#32
  let v968 : BitVec 32 := Scalar.muli v0 c1_i32_1237
  let v969 : BitVec 32 := Scalar.addi c0_i32_1238 v968
  v969.toNat
def k0_dev71 (v1 : BitVec 32) : Nat :=
  let c0_i32_1257 : BitVec 32 := 0#32
  let c1_i32_1256 : BitVec 32 := 1#32
  let v982 : BitVec 32 := Scalar.muli v1 c1_i32_1256
  let v983 : BitVec 32 := Scalar.addi c0_i32_1257 v982
  v983.toNat
def k0_dev72 (v0 : BitVec 32) : Nat :=
  let c0_i32_1276 : BitVec 32 := 0#32
  let c1_i32_1275 : BitVec 32 := 1#32
  let v996 : BitVec 32 := Scalar.muli v0 c1_i32_1275
  let v997 : BitVec 32 := Scalar.addi c0_i32_1276 v996
  v997.toNat
def k0_dev73 (v1 : BitVec 32) : Nat :=
  let c0_i32_1295 : BitVec 32 := 0#32
  let c1_i32_1294 : BitVec 32 := 1#32
  let v1010 : BitVec 32 := Scalar.muli v1 c1_i32_1294
  let v1011 : BitVec 32 := Scalar.addi c0_i32_1295 v1010
  v1011.toNat
def k0_dev74 (v0 : BitVec 32) : Nat :=
  let c0_i32_1314 : BitVec 32 := 0#32
  let c1_i32_1313 : BitVec 32 := 1#32
  let v1024 : BitVec 32 := Scalar.muli v0 c1_i32_1313
  let v1025 : BitVec 32 := Scalar.addi c0_i32_1314 v1024
  v1025.toNat
def k0_off10 (v1038 : BitVec 32) : Fin 2 → Nat :=
  let c128_i32_1323 : BitVec 32 := 128#32
  let v1040 : BitVec 32 := Scalar.muli v1038 c128_i32_1323
  let v1041 : Index := Scalar.indexCast v1040
  let c0_1324 : Index := 0#32
  ![v1041.toNat, 0]

def k0_chk11 (v1038 : BitVec 32) : Prop :=
  (∀ a, (k0_off10 v1038) a + S128x256.size a ≤ S4096x256.size a)
theorem k0_off10_inb : ∀ (v1038 : BitVec 32) (k0_hw11 : k0_chk11 v1038), ∀ a, (k0_off10 v1038) a + S128x256.size a ≤ S4096x256.size a := fun v1038 k0_hw11 => k0_hw11

def k0_off11 (v1043 : BitVec 32) : Fin 2 → Nat :=
  let c128_i32_1325 : BitVec 32 := 128#32
  let v1045 : BitVec 32 := Scalar.muli v1043 c128_i32_1325
  let v1046 : Index := Scalar.indexCast v1045
  let c0_1326 : Index := 0#32
  ![v1046.toNat, 0]

def k0_chk12 (v1043 : BitVec 32) : Prop :=
  (∀ a, (k0_off11 v1043) a + S128x256.size a ≤ S4096x256.size a)
theorem k0_off11_inb : ∀ (v1043 : BitVec 32) (k0_hw12 : k0_chk12 v1043), ∀ a, (k0_off11 v1043) a + S128x256.size a ≤ S4096x256.size a := fun v1043 k0_hw12 => k0_hw12

def k0_off12 (v1048 : BitVec 32) : Fin 2 → Nat :=
  let c128_i32_1327 : BitVec 32 := 128#32
  let v1050 : BitVec 32 := Scalar.muli v1048 c128_i32_1327
  let v1051 : Index := Scalar.indexCast v1050
  let c0_1328 : Index := 0#32
  ![v1051.toNat, 0]

def k0_chk13 (v1048 : BitVec 32) : Prop :=
  (∀ a, (k0_off12 v1048) a + S128x256.size a ≤ S4096x256.size a)
theorem k0_off12_inb : ∀ (v1048 : BitVec 32) (k0_hw13 : k0_chk13 v1048), ∀ a, (k0_off12 v1048) a + S128x256.size a ≤ S4096x256.size a := fun v1048 k0_hw13 => k0_hw13

def k0_off13 (v1053 : BitVec 32) : Fin 2 → Nat :=
  let c128_i32_1329 : BitVec 32 := 128#32
  let v1055 : BitVec 32 := Scalar.muli v1053 c128_i32_1329
  let v1056 : Index := Scalar.indexCast v1055
  let c0_1330 : Index := 0#32
  ![v1056.toNat, 0]

def k0_chk14 (v1053 : BitVec 32) : Prop :=
  (∀ a, (k0_off13 v1053) a + S128x256.size a ≤ S4096x256.size a)
theorem k0_off13_inb : ∀ (v1053 : BitVec 32) (k0_hw14 : k0_chk14 v1053), ∀ a, (k0_off13 v1053) a + S128x256.size a ≤ S4096x256.size a := fun v1053 k0_hw14 => k0_hw14

def k0_off14 (v1064 : BitVec 32) : Fin 2 → Nat :=
  let c128_i32_1336 : BitVec 32 := 128#32
  let v1066 : BitVec 32 := Scalar.muli v1064 c128_i32_1336
  let v1067 : Index := Scalar.indexCast v1066
  let c0_1337 : Index := 0#32
  ![v1067.toNat, 0]

def k0_chk15 (v1064 : BitVec 32) : Prop :=
  (∀ a, (k0_off14 v1064) a + S128x256.size a ≤ S4096x256.size a)
theorem k0_off14_inb : ∀ (v1064 : BitVec 32) (k0_hw15 : k0_chk15 v1064), ∀ a, (k0_off14 v1064) a + S128x256.size a ≤ S4096x256.size a := fun v1064 k0_hw15 => k0_hw15

def k0_off15 (v1069 : BitVec 32) : Fin 2 → Nat :=
  let c128_i32_1338 : BitVec 32 := 128#32
  let v1071 : BitVec 32 := Scalar.muli v1069 c128_i32_1338
  let v1072 : Index := Scalar.indexCast v1071
  let c0_1339 : Index := 0#32
  ![v1072.toNat, 0]

def k0_chk16 (v1069 : BitVec 32) : Prop :=
  (∀ a, (k0_off15 v1069) a + S128x256.size a ≤ S4096x256.size a)
theorem k0_off15_inb : ∀ (v1069 : BitVec 32) (k0_hw16 : k0_chk16 v1069), ∀ a, (k0_off15 v1069) a + S128x256.size a ≤ S4096x256.size a := fun v1069 k0_hw16 => k0_hw16

def k0_off16 (v1074 : BitVec 32) : Fin 2 → Nat :=
  let c128_i32_1340 : BitVec 32 := 128#32
  let v1076 : BitVec 32 := Scalar.muli v1074 c128_i32_1340
  let v1077 : Index := Scalar.indexCast v1076
  let c0_1341 : Index := 0#32
  ![v1077.toNat, 0]

def k0_chk17 (v1074 : BitVec 32) : Prop :=
  (∀ a, (k0_off16 v1074) a + S128x256.size a ≤ S4096x256.size a)
theorem k0_off16_inb : ∀ (v1074 : BitVec 32) (k0_hw17 : k0_chk17 v1074), ∀ a, (k0_off16 v1074) a + S128x256.size a ≤ S4096x256.size a := fun v1074 k0_hw17 => k0_hw17

def k0_off17 (v1079 : BitVec 32) : Fin 2 → Nat :=
  let c128_i32_1342 : BitVec 32 := 128#32
  let v1081 : BitVec 32 := Scalar.muli v1079 c128_i32_1342
  let v1082 : Index := Scalar.indexCast v1081
  let c0_1343 : Index := 0#32
  ![v1082.toNat, 0]

def k0_chk18 (v1079 : BitVec 32) : Prop :=
  (∀ a, (k0_off17 v1079) a + S128x256.size a ≤ S4096x256.size a)
theorem k0_off17_inb : ∀ (v1079 : BitVec 32) (k0_hw18 : k0_chk18 v1079), ∀ a, (k0_off17 v1079) a + S128x256.size a ≤ S4096x256.size a := fun v1079 k0_hw18 => k0_hw18

def k0_dev75 (v1 : BitVec 32) : Nat :=
  let c0_i32_1358 : BitVec 32 := 0#32
  let c1_i32_1357 : BitVec 32 := 1#32
  let v1090 : BitVec 32 := Scalar.muli v1 c1_i32_1357
  let v1091 : BitVec 32 := Scalar.addi c0_i32_1358 v1090
  v1091.toNat
def k0_dev76 (v0 : BitVec 32) : Nat :=
  let c0_i32_1377 : BitVec 32 := 0#32
  let c1_i32_1376 : BitVec 32 := 1#32
  let v1104 : BitVec 32 := Scalar.muli v0 c1_i32_1376
  let v1105 : BitVec 32 := Scalar.addi c0_i32_1377 v1104
  v1105.toNat
def k0_dev77 (v1 : BitVec 32) : Nat :=
  let c0_i32_1396 : BitVec 32 := 0#32
  let c1_i32_1395 : BitVec 32 := 1#32
  let v1118 : BitVec 32 := Scalar.muli v1 c1_i32_1395
  let v1119 : BitVec 32 := Scalar.addi c0_i32_1396 v1118
  v1119.toNat
def k0_dev78 (v0 : BitVec 32) : Nat :=
  let c0_i32_1415 : BitVec 32 := 0#32
  let c1_i32_1414 : BitVec 32 := 1#32
  let v1132 : BitVec 32 := Scalar.muli v0 c1_i32_1414
  let v1133 : BitVec 32 := Scalar.addi c0_i32_1415 v1132
  v1133.toNat
def k0_dev79 (v1 : BitVec 32) : Nat :=
  let c0_i32_1434 : BitVec 32 := 0#32
  let c1_i32_1433 : BitVec 32 := 1#32
  let v1146 : BitVec 32 := Scalar.muli v1 c1_i32_1433
  let v1147 : BitVec 32 := Scalar.addi c0_i32_1434 v1146
  v1147.toNat
def k0_dev80 (v0 : BitVec 32) : Nat :=
  let c0_i32_1453 : BitVec 32 := 0#32
  let c1_i32_1452 : BitVec 32 := 1#32
  let v1160 : BitVec 32 := Scalar.muli v0 c1_i32_1452
  let v1161 : BitVec 32 := Scalar.addi c0_i32_1453 v1160
  v1161.toNat
def k0_dev81 (v1 : BitVec 32) : Nat :=
  let c0_i32_1472 : BitVec 32 := 0#32
  let c1_i32_1471 : BitVec 32 := 1#32
  let v1174 : BitVec 32 := Scalar.muli v1 c1_i32_1471
  let v1175 : BitVec 32 := Scalar.addi c0_i32_1472 v1174
  v1175.toNat
def k0_dev82 (v0 : BitVec 32) : Nat :=
  let c0_i32_1491 : BitVec 32 := 0#32
  let c1_i32_1490 : BitVec 32 := 1#32
  let v1188 : BitVec 32 := Scalar.muli v0 c1_i32_1490
  let v1189 : BitVec 32 := Scalar.addi c0_i32_1491 v1188
  v1189.toNat
def k0_dev83 (v1 : BitVec 32) : Nat :=
  let c0_i32_1509 : BitVec 32 := 0#32
  let c1_i32_1508 : BitVec 32 := 1#32
  let v1202 : BitVec 32 := Scalar.muli v1 c1_i32_1508
  let v1203 : BitVec 32 := Scalar.addi c0_i32_1509 v1202
  v1203.toNat
def k0_dev84 (v0 : BitVec 32) : Nat :=
  let c0_i32_1528 : BitVec 32 := 0#32
  let c1_i32_1527 : BitVec 32 := 1#32
  let v1216 : BitVec 32 := Scalar.muli v0 c1_i32_1527
  let v1217 : BitVec 32 := Scalar.addi c0_i32_1528 v1216
  v1217.toNat
def k0_dev85 (v1 : BitVec 32) : Nat :=
  let c0_i32_1547 : BitVec 32 := 0#32
  let c1_i32_1546 : BitVec 32 := 1#32
  let v1230 : BitVec 32 := Scalar.muli v1 c1_i32_1546
  let v1231 : BitVec 32 := Scalar.addi c0_i32_1547 v1230
  v1231.toNat
def k0_dev86 (v0 : BitVec 32) : Nat :=
  let c0_i32_1566 : BitVec 32 := 0#32
  let c1_i32_1565 : BitVec 32 := 1#32
  let v1244 : BitVec 32 := Scalar.muli v0 c1_i32_1565
  let v1245 : BitVec 32 := Scalar.addi c0_i32_1566 v1244
  v1245.toNat
def k0_dev87 (v1 : BitVec 32) : Nat :=
  let c0_i32_1585 : BitVec 32 := 0#32
  let c1_i32_1584 : BitVec 32 := 1#32
  let v1258 : BitVec 32 := Scalar.muli v1 c1_i32_1584
  let v1259 : BitVec 32 := Scalar.addi c0_i32_1585 v1258
  v1259.toNat
def k0_dev88 (v0 : BitVec 32) : Nat :=
  let c0_i32_1604 : BitVec 32 := 0#32
  let c1_i32_1603 : BitVec 32 := 1#32
  let v1272 : BitVec 32 := Scalar.muli v0 c1_i32_1603
  let v1273 : BitVec 32 := Scalar.addi c0_i32_1604 v1272
  v1273.toNat
def k0_dev89 (v1 : BitVec 32) : Nat :=
  let c0_i32_1623 : BitVec 32 := 0#32
  let c1_i32_1622 : BitVec 32 := 1#32
  let v1286 : BitVec 32 := Scalar.muli v1 c1_i32_1622
  let v1287 : BitVec 32 := Scalar.addi c0_i32_1623 v1286
  v1287.toNat
def k0_dev90 (v0 : BitVec 32) : Nat :=
  let c0_i32_1642 : BitVec 32 := 0#32
  let c1_i32_1641 : BitVec 32 := 1#32
  let v1300 : BitVec 32 := Scalar.muli v0 c1_i32_1641
  let v1301 : BitVec 32 := Scalar.addi c0_i32_1642 v1300
  v1301.toNat
def k0_dev91 (v1 : BitVec 32) : Nat :=
  let c0_i32_1660 : BitVec 32 := 0#32
  let c1_i32_1659 : BitVec 32 := 1#32
  let v1314 : BitVec 32 := Scalar.muli v1 c1_i32_1659
  let v1315 : BitVec 32 := Scalar.addi c0_i32_1660 v1314
  v1315.toNat
def k0_dev92 (v0 : BitVec 32) : Nat :=
  let c0_i32_1679 : BitVec 32 := 0#32
  let c1_i32_1678 : BitVec 32 := 1#32
  let v1328 : BitVec 32 := Scalar.muli v0 c1_i32_1678
  let v1329 : BitVec 32 := Scalar.addi c0_i32_1679 v1328
  v1329.toNat
def k0_dev93 (v1 : BitVec 32) : Nat :=
  let c0_i32_1698 : BitVec 32 := 0#32
  let c1_i32_1697 : BitVec 32 := 1#32
  let v1342 : BitVec 32 := Scalar.muli v1 c1_i32_1697
  let v1343 : BitVec 32 := Scalar.addi c0_i32_1698 v1342
  v1343.toNat
def k0_dev94 (v0 : BitVec 32) : Nat :=
  let c0_i32_1717 : BitVec 32 := 0#32
  let c1_i32_1716 : BitVec 32 := 1#32
  let v1356 : BitVec 32 := Scalar.muli v0 c1_i32_1716
  let v1357 : BitVec 32 := Scalar.addi c0_i32_1717 v1356
  v1357.toNat
def k0_dev95 (v1 : BitVec 32) : Nat :=
  let c0_i32_1736 : BitVec 32 := 0#32
  let c1_i32_1735 : BitVec 32 := 1#32
  let v1370 : BitVec 32 := Scalar.muli v1 c1_i32_1735
  let v1371 : BitVec 32 := Scalar.addi c0_i32_1736 v1370
  v1371.toNat
def k0_dev96 (v0 : BitVec 32) : Nat :=
  let c0_i32_1755 : BitVec 32 := 0#32
  let c1_i32_1754 : BitVec 32 := 1#32
  let v1384 : BitVec 32 := Scalar.muli v0 c1_i32_1754
  let v1385 : BitVec 32 := Scalar.addi c0_i32_1755 v1384
  v1385.toNat
def k0_dev97 (v1 : BitVec 32) : Nat :=
  let c0_i32_1774 : BitVec 32 := 0#32
  let c1_i32_1773 : BitVec 32 := 1#32
  let v1398 : BitVec 32 := Scalar.muli v1 c1_i32_1773
  let v1399 : BitVec 32 := Scalar.addi c0_i32_1774 v1398
  v1399.toNat
def k0_dev98 (v0 : BitVec 32) : Nat :=
  let c0_i32_1793 : BitVec 32 := 0#32
  let c1_i32_1792 : BitVec 32 := 1#32
  let v1412 : BitVec 32 := Scalar.muli v0 c1_i32_1792
  let v1413 : BitVec 32 := Scalar.addi c0_i32_1793 v1412
  v1413.toNat
def k0_dev99 (v1 : BitVec 32) : Nat :=
  let c0_i32_1811 : BitVec 32 := 0#32
  let c1_i32_1810 : BitVec 32 := 1#32
  let v1426 : BitVec 32 := Scalar.muli v1 c1_i32_1810
  let v1427 : BitVec 32 := Scalar.addi c0_i32_1811 v1426
  v1427.toNat
def k0_dev100 (v0 : BitVec 32) : Nat :=
  let c0_i32_1830 : BitVec 32 := 0#32
  let c1_i32_1829 : BitVec 32 := 1#32
  let v1440 : BitVec 32 := Scalar.muli v0 c1_i32_1829
  let v1441 : BitVec 32 := Scalar.addi c0_i32_1830 v1440
  v1441.toNat
def k0_dev101 (v1 : BitVec 32) : Nat :=
  let c0_i32_1849 : BitVec 32 := 0#32
  let c1_i32_1848 : BitVec 32 := 1#32
  let v1454 : BitVec 32 := Scalar.muli v1 c1_i32_1848
  let v1455 : BitVec 32 := Scalar.addi c0_i32_1849 v1454
  v1455.toNat
def k0_dev102 (v0 : BitVec 32) : Nat :=
  let c0_i32_1868 : BitVec 32 := 0#32
  let c1_i32_1867 : BitVec 32 := 1#32
  let v1468 : BitVec 32 := Scalar.muli v0 c1_i32_1867
  let v1469 : BitVec 32 := Scalar.addi c0_i32_1868 v1468
  v1469.toNat
def k0_dev103 (v1 : BitVec 32) : Nat :=
  let c0_i32_1887 : BitVec 32 := 0#32
  let c1_i32_1886 : BitVec 32 := 1#32
  let v1482 : BitVec 32 := Scalar.muli v1 c1_i32_1886
  let v1483 : BitVec 32 := Scalar.addi c0_i32_1887 v1482
  v1483.toNat
def k0_dev104 (v0 : BitVec 32) : Nat :=
  let c0_i32_1906 : BitVec 32 := 0#32
  let c1_i32_1905 : BitVec 32 := 1#32
  let v1496 : BitVec 32 := Scalar.muli v0 c1_i32_1905
  let v1497 : BitVec 32 := Scalar.addi c0_i32_1906 v1496
  v1497.toNat
def k0_dev105 (v1 : BitVec 32) : Nat :=
  let c0_i32_1925 : BitVec 32 := 0#32
  let c1_i32_1924 : BitVec 32 := 1#32
  let v1510 : BitVec 32 := Scalar.muli v1 c1_i32_1924
  let v1511 : BitVec 32 := Scalar.addi c0_i32_1925 v1510
  v1511.toNat
def k0_dev106 (v0 : BitVec 32) : Nat :=
  let c0_i32_1944 : BitVec 32 := 0#32
  let c1_i32_1943 : BitVec 32 := 1#32
  let v1524 : BitVec 32 := Scalar.muli v0 c1_i32_1943
  let v1525 : BitVec 32 := Scalar.addi c0_i32_1944 v1524
  v1525.toNat
def k0_off18 (v1538 : BitVec 32) : Fin 2 → Nat :=
  let c128_i32_1953 : BitVec 32 := 128#32
  let v1540 : BitVec 32 := Scalar.muli v1538 c128_i32_1953
  let v1541 : Index := Scalar.indexCast v1540
  let c0_1954 : Index := 0#32
  ![v1541.toNat, 0]

def k0_chk19 (v1538 : BitVec 32) : Prop :=
  (∀ a, (k0_off18 v1538) a + S128x256.size a ≤ S4096x256.size a)
theorem k0_off18_inb : ∀ (v1538 : BitVec 32) (k0_hw19 : k0_chk19 v1538), ∀ a, (k0_off18 v1538) a + S128x256.size a ≤ S4096x256.size a := fun v1538 k0_hw19 => k0_hw19

def k0_off19 (v1543 : BitVec 32) : Fin 2 → Nat :=
  let c128_i32_1955 : BitVec 32 := 128#32
  let v1545 : BitVec 32 := Scalar.muli v1543 c128_i32_1955
  let v1546 : Index := Scalar.indexCast v1545
  let c0_1956 : Index := 0#32
  ![v1546.toNat, 0]

def k0_chk20 (v1543 : BitVec 32) : Prop :=
  (∀ a, (k0_off19 v1543) a + S128x256.size a ≤ S4096x256.size a)
theorem k0_off19_inb : ∀ (v1543 : BitVec 32) (k0_hw20 : k0_chk20 v1543), ∀ a, (k0_off19 v1543) a + S128x256.size a ≤ S4096x256.size a := fun v1543 k0_hw20 => k0_hw20

def k0_off20 (v1548 : BitVec 32) : Fin 2 → Nat :=
  let c128_i32_1957 : BitVec 32 := 128#32
  let v1550 : BitVec 32 := Scalar.muli v1548 c128_i32_1957
  let v1551 : Index := Scalar.indexCast v1550
  let c0_1958 : Index := 0#32
  ![v1551.toNat, 0]

def k0_chk21 (v1548 : BitVec 32) : Prop :=
  (∀ a, (k0_off20 v1548) a + S128x256.size a ≤ S4096x256.size a)
theorem k0_off20_inb : ∀ (v1548 : BitVec 32) (k0_hw21 : k0_chk21 v1548), ∀ a, (k0_off20 v1548) a + S128x256.size a ≤ S4096x256.size a := fun v1548 k0_hw21 => k0_hw21

def k0_off21 (v1553 : BitVec 32) : Fin 2 → Nat :=
  let c128_i32_1959 : BitVec 32 := 128#32
  let v1555 : BitVec 32 := Scalar.muli v1553 c128_i32_1959
  let v1556 : Index := Scalar.indexCast v1555
  let c0_1960 : Index := 0#32
  ![v1556.toNat, 0]

def k0_chk22 (v1553 : BitVec 32) : Prop :=
  (∀ a, (k0_off21 v1553) a + S128x256.size a ≤ S4096x256.size a)
theorem k0_off21_inb : ∀ (v1553 : BitVec 32) (k0_hw22 : k0_chk22 v1553), ∀ a, (k0_off21 v1553) a + S128x256.size a ≤ S4096x256.size a := fun v1553 k0_hw22 => k0_hw22

def k0_off22 (v1564 : BitVec 32) : Fin 2 → Nat :=
  let c128_i32_1966 : BitVec 32 := 128#32
  let v1566 : BitVec 32 := Scalar.muli v1564 c128_i32_1966
  let v1567 : Index := Scalar.indexCast v1566
  let c0_1967 : Index := 0#32
  ![v1567.toNat, 0]

def k0_chk23 (v1564 : BitVec 32) : Prop :=
  (∀ a, (k0_off22 v1564) a + S128x256.size a ≤ S4096x256.size a)
theorem k0_off22_inb : ∀ (v1564 : BitVec 32) (k0_hw23 : k0_chk23 v1564), ∀ a, (k0_off22 v1564) a + S128x256.size a ≤ S4096x256.size a := fun v1564 k0_hw23 => k0_hw23

def k0_off23 (v1569 : BitVec 32) : Fin 2 → Nat :=
  let c128_i32_1968 : BitVec 32 := 128#32
  let v1571 : BitVec 32 := Scalar.muli v1569 c128_i32_1968
  let v1572 : Index := Scalar.indexCast v1571
  let c0_1969 : Index := 0#32
  ![v1572.toNat, 0]

def k0_chk24 (v1569 : BitVec 32) : Prop :=
  (∀ a, (k0_off23 v1569) a + S128x256.size a ≤ S4096x256.size a)
theorem k0_off23_inb : ∀ (v1569 : BitVec 32) (k0_hw24 : k0_chk24 v1569), ∀ a, (k0_off23 v1569) a + S128x256.size a ≤ S4096x256.size a := fun v1569 k0_hw24 => k0_hw24

def k0_off24 (v1574 : BitVec 32) : Fin 2 → Nat :=
  let c128_i32_1970 : BitVec 32 := 128#32
  let v1576 : BitVec 32 := Scalar.muli v1574 c128_i32_1970
  let v1577 : Index := Scalar.indexCast v1576
  let c0_1971 : Index := 0#32
  ![v1577.toNat, 0]

def k0_chk25 (v1574 : BitVec 32) : Prop :=
  (∀ a, (k0_off24 v1574) a + S128x256.size a ≤ S4096x256.size a)
theorem k0_off24_inb : ∀ (v1574 : BitVec 32) (k0_hw25 : k0_chk25 v1574), ∀ a, (k0_off24 v1574) a + S128x256.size a ≤ S4096x256.size a := fun v1574 k0_hw25 => k0_hw25

def k0_off25 (v1579 : BitVec 32) : Fin 2 → Nat :=
  let c128_i32_1972 : BitVec 32 := 128#32
  let v1581 : BitVec 32 := Scalar.muli v1579 c128_i32_1972
  let v1582 : Index := Scalar.indexCast v1581
  let c0_1973 : Index := 0#32
  ![v1582.toNat, 0]

def k0_chk26 (v1579 : BitVec 32) : Prop :=
  (∀ a, (k0_off25 v1579) a + S128x256.size a ≤ S4096x256.size a)
theorem k0_off25_inb : ∀ (v1579 : BitVec 32) (k0_hw26 : k0_chk26 v1579), ∀ a, (k0_off25 v1579) a + S128x256.size a ≤ S4096x256.size a := fun v1579 k0_hw26 => k0_hw26

def k0_dev107 (v1 : BitVec 32) : Nat :=
  let c0_i32_1988 : BitVec 32 := 0#32
  let c1_i32_1987 : BitVec 32 := 1#32
  let v1590 : BitVec 32 := Scalar.muli v1 c1_i32_1987
  let v1591 : BitVec 32 := Scalar.addi c0_i32_1988 v1590
  v1591.toNat
def k0_dev108 (v0 : BitVec 32) : Nat :=
  let c0_i32_2007 : BitVec 32 := 0#32
  let c1_i32_2006 : BitVec 32 := 1#32
  let v1604 : BitVec 32 := Scalar.muli v0 c1_i32_2006
  let v1605 : BitVec 32 := Scalar.addi c0_i32_2007 v1604
  v1605.toNat
def k0_dev109 (v1 : BitVec 32) : Nat :=
  let c0_i32_2026 : BitVec 32 := 0#32
  let c1_i32_2025 : BitVec 32 := 1#32
  let v1618 : BitVec 32 := Scalar.muli v1 c1_i32_2025
  let v1619 : BitVec 32 := Scalar.addi c0_i32_2026 v1618
  v1619.toNat
def k0_dev110 (v0 : BitVec 32) : Nat :=
  let c0_i32_2045 : BitVec 32 := 0#32
  let c1_i32_2044 : BitVec 32 := 1#32
  let v1632 : BitVec 32 := Scalar.muli v0 c1_i32_2044
  let v1633 : BitVec 32 := Scalar.addi c0_i32_2045 v1632
  v1633.toNat
def k0_dev111 (v1 : BitVec 32) : Nat :=
  let c0_i32_2064 : BitVec 32 := 0#32
  let c1_i32_2063 : BitVec 32 := 1#32
  let v1646 : BitVec 32 := Scalar.muli v1 c1_i32_2063
  let v1647 : BitVec 32 := Scalar.addi c0_i32_2064 v1646
  v1647.toNat
def k0_dev112 (v0 : BitVec 32) : Nat :=
  let c0_i32_2083 : BitVec 32 := 0#32
  let c1_i32_2082 : BitVec 32 := 1#32
  let v1660 : BitVec 32 := Scalar.muli v0 c1_i32_2082
  let v1661 : BitVec 32 := Scalar.addi c0_i32_2083 v1660
  v1661.toNat
def k0_dev113 (v1 : BitVec 32) : Nat :=
  let c0_i32_2102 : BitVec 32 := 0#32
  let c1_i32_2101 : BitVec 32 := 1#32
  let v1674 : BitVec 32 := Scalar.muli v1 c1_i32_2101
  let v1675 : BitVec 32 := Scalar.addi c0_i32_2102 v1674
  v1675.toNat
def k0_dev114 (v0 : BitVec 32) : Nat :=
  let c0_i32_2121 : BitVec 32 := 0#32
  let c1_i32_2120 : BitVec 32 := 1#32
  let v1688 : BitVec 32 := Scalar.muli v0 c1_i32_2120
  let v1689 : BitVec 32 := Scalar.addi c0_i32_2121 v1688
  v1689.toNat
def k0_dev115 (v1 : BitVec 32) : Nat :=
  let c0_i32_2139 : BitVec 32 := 0#32
  let c1_i32_2138 : BitVec 32 := 1#32
  let v1702 : BitVec 32 := Scalar.muli v1 c1_i32_2138
  let v1703 : BitVec 32 := Scalar.addi c0_i32_2139 v1702
  v1703.toNat
def k0_dev116 (v0 : BitVec 32) : Nat :=
  let c0_i32_2158 : BitVec 32 := 0#32
  let c1_i32_2157 : BitVec 32 := 1#32
  let v1716 : BitVec 32 := Scalar.muli v0 c1_i32_2157
  let v1717 : BitVec 32 := Scalar.addi c0_i32_2158 v1716
  v1717.toNat
def k0_dev117 (v1 : BitVec 32) : Nat :=
  let c0_i32_2177 : BitVec 32 := 0#32
  let c1_i32_2176 : BitVec 32 := 1#32
  let v1730 : BitVec 32 := Scalar.muli v1 c1_i32_2176
  let v1731 : BitVec 32 := Scalar.addi c0_i32_2177 v1730
  v1731.toNat
def k0_dev118 (v0 : BitVec 32) : Nat :=
  let c0_i32_2196 : BitVec 32 := 0#32
  let c1_i32_2195 : BitVec 32 := 1#32
  let v1744 : BitVec 32 := Scalar.muli v0 c1_i32_2195
  let v1745 : BitVec 32 := Scalar.addi c0_i32_2196 v1744
  v1745.toNat
def k0_dev119 (v1 : BitVec 32) : Nat :=
  let c0_i32_2215 : BitVec 32 := 0#32
  let c1_i32_2214 : BitVec 32 := 1#32
  let v1758 : BitVec 32 := Scalar.muli v1 c1_i32_2214
  let v1759 : BitVec 32 := Scalar.addi c0_i32_2215 v1758
  v1759.toNat
def k0_dev120 (v0 : BitVec 32) : Nat :=
  let c0_i32_2234 : BitVec 32 := 0#32
  let c1_i32_2233 : BitVec 32 := 1#32
  let v1772 : BitVec 32 := Scalar.muli v0 c1_i32_2233
  let v1773 : BitVec 32 := Scalar.addi c0_i32_2234 v1772
  v1773.toNat
def k0_dev121 (v1 : BitVec 32) : Nat :=
  let c0_i32_2253 : BitVec 32 := 0#32
  let c1_i32_2252 : BitVec 32 := 1#32
  let v1786 : BitVec 32 := Scalar.muli v1 c1_i32_2252
  let v1787 : BitVec 32 := Scalar.addi c0_i32_2253 v1786
  v1787.toNat
def k0_dev122 (v0 : BitVec 32) : Nat :=
  let c0_i32_2272 : BitVec 32 := 0#32
  let c1_i32_2271 : BitVec 32 := 1#32
  let v1800 : BitVec 32 := Scalar.muli v0 c1_i32_2271
  let v1801 : BitVec 32 := Scalar.addi c0_i32_2272 v1800
  v1801.toNat
def k0_dev123 (v1 : BitVec 32) : Nat :=
  let c0_i32_2290 : BitVec 32 := 0#32
  let c1_i32_2289 : BitVec 32 := 1#32
  let v1814 : BitVec 32 := Scalar.muli v1 c1_i32_2289
  let v1815 : BitVec 32 := Scalar.addi c0_i32_2290 v1814
  v1815.toNat
def k0_dev124 (v1 : BitVec 32) : Nat :=
  let c0_i32_2319 : BitVec 32 := 0#32
  let c1_i32_2318 : BitVec 32 := 1#32
  let v1834 : BitVec 32 := Scalar.muli v1 c1_i32_2318
  let v1835 : BitVec 32 := Scalar.addi c0_i32_2319 v1834
  v1835.toNat

def k0_chk2_0 (v1 : BitVec 32) : Prop :=
  ((k0_dev2 v1) < nD) ∧
  ((k0_dev3 v1) < nD) ∧
  ((k0_dev5 v1) < nD) ∧
  ((k0_dev7 v1) < nD) ∧
  ((k0_dev9 v1) < nD) ∧
  ((k0_dev11 v1) < nD) ∧
  ((k0_dev13 v1) < nD) ∧
  ((k0_dev15 v1) < nD) ∧
  ((k0_dev17 v1) < nD) ∧
  ((k0_dev19 v1) < nD) ∧
  ((k0_dev21 v1) < nD) ∧
  ((k0_dev23 v1) < nD) ∧
  ((k0_dev25 v1) < nD) ∧
  ((k0_dev27 v1) < nD) ∧
  ((k0_dev29 v1) < nD) ∧
  ((k0_dev31 v1) < nD) ∧
  ((k0_dev33 v1) < nD) ∧
  ((k0_dev35 v1) < nD) ∧
  ((k0_dev37 v1) < nD) ∧
  ((k0_dev39 v1) < nD) ∧
  ((k0_dev41 v1) < nD) ∧
  ((k0_dev43 v1) < nD) ∧
  ((k0_dev45 v1) < nD) ∧
  ((k0_dev47 v1) < nD) ∧
  ((k0_dev49 v1) < nD) ∧
  ((k0_dev51 v1) < nD) ∧
  ((k0_dev53 v1) < nD) ∧
  ((k0_dev55 v1) < nD) ∧
  ((k0_dev57 v1) < nD) ∧
  ((k0_dev59 v1) < nD) ∧
  ((k0_dev61 v1) < nD) ∧
  ((k0_dev63 v1) < nD)
def k0_chk2_1 (v1 : BitVec 32) : Prop :=
  ((k0_dev65 v1) < nD) ∧
  ((k0_dev67 v1) < nD) ∧
  ((k0_dev69 v1) < nD) ∧
  ((k0_dev71 v1) < nD) ∧
  ((k0_dev73 v1) < nD) ∧
  ((k0_dev75 v1) < nD) ∧
  ((k0_dev77 v1) < nD) ∧
  ((k0_dev79 v1) < nD) ∧
  ((k0_dev81 v1) < nD) ∧
  ((k0_dev83 v1) < nD) ∧
  ((k0_dev85 v1) < nD) ∧
  ((k0_dev87 v1) < nD) ∧
  ((k0_dev89 v1) < nD) ∧
  ((k0_dev91 v1) < nD) ∧
  ((k0_dev93 v1) < nD) ∧
  ((k0_dev95 v1) < nD) ∧
  ((k0_dev97 v1) < nD) ∧
  ((k0_dev99 v1) < nD) ∧
  ((k0_dev101 v1) < nD) ∧
  ((k0_dev103 v1) < nD) ∧
  ((k0_dev105 v1) < nD) ∧
  ((k0_dev107 v1) < nD) ∧
  ((k0_dev109 v1) < nD) ∧
  ((k0_dev111 v1) < nD) ∧
  ((k0_dev113 v1) < nD) ∧
  ((k0_dev115 v1) < nD) ∧
  ((k0_dev117 v1) < nD) ∧
  ((k0_dev119 v1) < nD) ∧
  ((k0_dev121 v1) < nD) ∧
  ((k0_dev123 v1) < nD) ∧
  ((k0_dev124 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev5_lt : ∀ (v1 : BitVec 32) (k0_hw2 : k0_chk2 v1), (k0_dev5 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev41_lt : ∀ (v1 : BitVec 32) (k0_hw2 : k0_chk2 v1), (k0_dev41 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1
theorem k0_dev67_lt : ∀ (v1 : BitVec 32) (k0_hw2 : k0_chk2 v1), (k0_dev67 v1) < nD := fun v1 k0_hw2 => k0_hw2.2.2.1
theorem k0_dev69_lt : ∀ (v1 : BitVec 32) (k0_hw2 : k0_chk2 v1), (k0_dev69 v1) < nD := fun v1 k0_hw2 => k0_hw2.2.2.2.1
theorem k0_dev71_lt : ∀ (v1 : BitVec 32) (k0_hw2 : k0_chk2 v1), (k0_dev71 v1) < nD := fun v1 k0_hw2 => k0_hw2.2.2.2.2.1
theorem k0_dev73_lt : ∀ (v1 : BitVec 32) (k0_hw2 : k0_chk2 v1), (k0_dev73 v1) < nD := fun v1 k0_hw2 => k0_hw2.2.2.2.2.2.1
theorem k0_dev75_lt : ∀ (v1 : BitVec 32) (k0_hw2 : k0_chk2 v1), (k0_dev75 v1) < nD := fun v1 k0_hw2 => k0_hw2.2.2.2.2.2.2.1
theorem k0_dev77_lt : ∀ (v1 : BitVec 32) (k0_hw2 : k0_chk2 v1), (k0_dev77 v1) < nD := fun v1 k0_hw2 => k0_hw2.2.2.2.2.2.2.2.1
theorem k0_dev79_lt : ∀ (v1 : BitVec 32) (k0_hw2 : k0_chk2 v1), (k0_dev79 v1) < nD := fun v1 k0_hw2 => k0_hw2.2.2.2.2.2.2.2.2.1
theorem k0_dev81_lt : ∀ (v1 : BitVec 32) (k0_hw2 : k0_chk2 v1), (k0_dev81 v1) < nD := fun v1 k0_hw2 => k0_hw2.2.2.2.2.2.2.2.2.2.1
theorem k0_dev83_lt : ∀ (v1 : BitVec 32) (k0_hw2 : k0_chk2 v1), (k0_dev83 v1) < nD := fun v1 k0_hw2 => k0_hw2.2.2.2.2.2.2.2.2.2.2.1
theorem k0_dev85_lt : ∀ (v1 : BitVec 32) (k0_hw2 : k0_chk2 v1), (k0_dev85 v1) < nD := fun v1 k0_hw2 => k0_hw2.2.2.2.2.2.2.2.2.2.2.2.1
theorem k0_dev87_lt : ∀ (v1 : BitVec 32) (k0_hw2 : k0_chk2 v1), (k0_dev87 v1) < nD := fun v1 k0_hw2 => k0_hw2.2.2.2.2.2.2.2.2.2.2.2.2.1
theorem k0_dev89_lt : ∀ (v1 : BitVec 32) (k0_hw2 : k0_chk2 v1), (k0_dev89 v1) < nD := fun v1 k0_hw2 => k0_hw2.2.2.2.2.2.2.2.2.2.2.2.2.2.1
theorem k0_dev91_lt : ∀ (v1 : BitVec 32) (k0_hw2 : k0_chk2 v1), (k0_dev91 v1) < nD := fun v1 k0_hw2 => k0_hw2.2.2.2.2.2.2.2.2.2.2.2.2.2.2.1
theorem k0_dev93_lt : ∀ (v1 : BitVec 32) (k0_hw2 : k0_chk2 v1), (k0_dev93 v1) < nD := fun v1 k0_hw2 => k0_hw2.2.2.2.2.2.2.2.2.2.2.2.2.2.2.2.1
theorem k0_dev95_lt : ∀ (v1 : BitVec 32) (k0_hw2 : k0_chk2 v1), (k0_dev95 v1) < nD := fun v1 k0_hw2 => k0_hw2.2.2.2.2.2.2.2.2.2.2.2.2.2.2.2.2.1
theorem k0_dev97_lt : ∀ (v1 : BitVec 32) (k0_hw2 : k0_chk2 v1), (k0_dev97 v1) < nD := fun v1 k0_hw2 => k0_hw2.2.2.2.2.2.2.2.2.2.2.2.2.2.2.2.2.2.1
theorem k0_dev99_lt : ∀ (v1 : BitVec 32) (k0_hw2 : k0_chk2 v1), (k0_dev99 v1) < nD := fun v1 k0_hw2 => k0_hw2.2.2.2.2.2.2.2.2.2.2.2.2.2.2.2.2.2.2.1
theorem k0_dev101_lt : ∀ (v1 : BitVec 32) (k0_hw2 : k0_chk2 v1), (k0_dev101 v1) < nD := fun v1 k0_hw2 => k0_hw2.2.2.2.2.2.2.2.2.2.2.2.2.2.2.2.2.2.2.2.1
theorem k0_dev103_lt : ∀ (v1 : BitVec 32) (k0_hw2 : k0_chk2 v1), (k0_dev103 v1) < nD := fun v1 k0_hw2 => k0_hw2.2.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.2.2.2.2.2.2.2.2.2.2.2.2.2.2.2.2.2.2.2.2.2.2.2.2.2.2.2.2.2.1
theorem k0_dev124_lt : ∀ (v1 : BitVec 32) (k0_hw2 : k0_chk2 v1), (k0_dev124 v1) < nD := fun v1 k0_hw2 => k0_hw2.2.2.2.2.2.2.2.2.2.2.2.2.2.2.2.2.2.2.2.2.2.2.2.2.2.2.2.2.2.2.2

def k0_dev125 (v0 : BitVec 32) : Nat :=
  let c0_i32_2358 : BitVec 32 := 0#32
  let c1_i32_2357 : BitVec 32 := 1#32
  let v1860 : BitVec 32 := Scalar.muli v0 c1_i32_2357
  let v1861 : BitVec 32 := Scalar.addi c0_i32_2358 v1860
  v1861.toNat
def k0_dev126 (v0 : BitVec 32) : Nat :=
  let c0_i32_2387 : BitVec 32 := 0#32
  let c1_i32_2386 : BitVec 32 := 1#32
  let v1880 : BitVec 32 := Scalar.muli v0 c1_i32_2386
  let v1881 : BitVec 32 := Scalar.addi c0_i32_2387 v1880
  v1881.toNat

def k0_chk1_0 (v0 : BitVec 32) : Prop :=
  ((k0_dev1 v0) < nD) ∧
  ((k0_dev4 v0) < nD) ∧
  ((k0_dev6 v0) < nD) ∧
  ((k0_dev8 v0) < nD) ∧
  ((k0_dev10 v0) < nD) ∧
  ((k0_dev12 v0) < nD) ∧
  ((k0_dev14 v0) < nD) ∧
  ((k0_dev16 v0) < nD) ∧
  ((k0_dev18 v0) < nD) ∧
  ((k0_dev20 v0) < nD) ∧
  ((k0_dev22 v0) < nD) ∧
  ((k0_dev24 v0) < nD) ∧
  ((k0_dev26 v0) < nD) ∧
  ((k0_dev28 v0) < nD) ∧
  ((k0_dev30 v0) < nD) ∧
  ((k0_dev32 v0) < nD) ∧
  ((k0_dev34 v0) < nD) ∧
  ((k0_dev36 v0) < nD) ∧
  ((k0_dev38 v0) < nD) ∧
  ((k0_dev40 v0) < nD) ∧
  ((k0_dev42 v0) < nD) ∧
  ((k0_dev44 v0) < nD) ∧
  ((k0_dev46 v0) < nD) ∧
  ((k0_dev48 v0) < nD) ∧
  ((k0_dev50 v0) < nD) ∧
  ((k0_dev52 v0) < nD) ∧
  ((k0_dev54 v0) < nD) ∧
  ((k0_dev56 v0) < nD) ∧
  ((k0_dev58 v0) < nD) ∧
  ((k0_dev60 v0) < nD) ∧
  ((k0_dev62 v0) < nD) ∧
  ((k0_dev64 v0) < nD)
def k0_chk1_1 (v0 : BitVec 32) : Prop :=
  ((k0_dev66 v0) < nD) ∧
  ((k0_dev68 v0) < nD) ∧
  ((k0_dev70 v0) < nD) ∧
  ((k0_dev72 v0) < nD) ∧
  ((k0_dev74 v0) < nD) ∧
  ((k0_dev76 v0) < nD) ∧
  ((k0_dev78 v0) < nD) ∧
  ((k0_dev80 v0) < nD) ∧
  ((k0_dev82 v0) < nD) ∧
  ((k0_dev84 v0) < nD) ∧
  ((k0_dev86 v0) < nD) ∧
  ((k0_dev88 v0) < nD) ∧
  ((k0_dev90 v0) < nD) ∧
  ((k0_dev92 v0) < nD) ∧
  ((k0_dev94 v0) < nD) ∧
  ((k0_dev96 v0) < nD) ∧
  ((k0_dev98 v0) < nD) ∧
  ((k0_dev100 v0) < nD) ∧
  ((k0_dev102 v0) < nD) ∧
  ((k0_dev104 v0) < nD) ∧
  ((k0_dev106 v0) < nD) ∧
  ((k0_dev108 v0) < nD) ∧
  ((k0_dev110 v0) < nD) ∧
  ((k0_dev112 v0) < nD) ∧
  ((k0_dev114 v0) < nD) ∧
  ((k0_dev116 v0) < nD) ∧
  ((k0_dev118 v0) < nD) ∧
  ((k0_dev120 v0) < nD) ∧
  ((k0_dev122 v0) < nD) ∧
  ((k0_dev125 v0) < nD) ∧
  ((k0_dev126 v0) < nD)
def k0_chk1 (v0 : BitVec 32) : Prop :=
  k0_chk1_0 v0 ∧
  k0_chk1_1 v0
theorem k0_dev1_lt : ∀ (v0 : BitVec 32) (k0_hw1 : k0_chk1 v0), (k0_dev1 v0) < nD := fun v0 k0_hw1 => k0_hw1.1.1
theorem k0_dev4_lt : ∀ (v0 : BitVec 32) (k0_hw1 : k0_chk1 v0), (k0_dev4 v0) < nD := fun v0 k0_hw1 => k0_hw1.1.2.1
theorem k0_dev6_lt : ∀ (v0 : BitVec 32) (k0_hw1 : k0_chk1 v0), (k0_dev6 v0) < nD := fun v0 k0_hw1 => k0_hw1.1.2.2.1
theorem k0_dev8_lt : ∀ (v0 : BitVec 32) (k0_hw1 : k0_chk1 v0), (k0_dev8 v0) < nD := fun v0 k0_hw1 => k0_hw1.1.2.2.2.1
theorem k0_dev10_lt : ∀ (v0 : BitVec 32) (k0_hw1 : k0_chk1 v0), (k0_dev10 v0) < nD := fun v0 k0_hw1 => k0_hw1.1.2.2.2.2.1
theorem k0_dev12_lt : ∀ (v0 : BitVec 32) (k0_hw1 : k0_chk1 v0), (k0_dev12 v0) < nD := fun v0 k0_hw1 => k0_hw1.1.2.2.2.2.2.1
theorem k0_dev14_lt : ∀ (v0 : BitVec 32) (k0_hw1 : k0_chk1 v0), (k0_dev14 v0) < nD := fun v0 k0_hw1 => k0_hw1.1.2.2.2.2.2.2.1
theorem k0_dev16_lt : ∀ (v0 : BitVec 32) (k0_hw1 : k0_chk1 v0), (k0_dev16 v0) < nD := fun v0 k0_hw1 => k0_hw1.1.2.2.2.2.2.2.2.1
theorem k0_dev18_lt : ∀ (v0 : BitVec 32) (k0_hw1 : k0_chk1 v0), (k0_dev18 v0) < nD := fun v0 k0_hw1 => k0_hw1.1.2.2.2.2.2.2.2.2.1
theorem k0_dev20_lt : ∀ (v0 : BitVec 32) (k0_hw1 : k0_chk1 v0), (k0_dev20 v0) < nD := fun v0 k0_hw1 => k0_hw1.1.2.2.2.2.2.2.2.2.2.1
theorem k0_dev22_lt : ∀ (v0 : BitVec 32) (k0_hw1 : k0_chk1 v0), (k0_dev22 v0) < nD := fun v0 k0_hw1 => k0_hw1.1.2.2.2.2.2.2.2.2.2.2.1
theorem k0_dev24_lt : ∀ (v0 : BitVec 32) (k0_hw1 : k0_chk1 v0), (k0_dev24 v0) < nD := fun v0 k0_hw1 => k0_hw1.1.2.2.2.2.2.2.2.2.2.2.2.1
theorem k0_dev26_lt : ∀ (v0 : BitVec 32) (k0_hw1 : k0_chk1 v0), (k0_dev26 v0) < nD := fun v0 k0_hw1 => k0_hw1.1.2.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.2.1
theorem k0_dev30_lt : ∀ (v0 : BitVec 32) (k0_hw1 : k0_chk1 v0), (k0_dev30 v0) < nD := fun v0 k0_hw1 => k0_hw1.1.2.2.2.2.2.2.2.2.2.2.2.2.2.2.1
theorem k0_dev32_lt : ∀ (v0 : BitVec 32) (k0_hw1 : k0_chk1 v0), (k0_dev32 v0) < nD := fun v0 k0_hw1 => k0_hw1.1.2.2.2.2.2.2.2.2.2.2.2.2.2.2.2.1
theorem k0_dev34_lt : ∀ (v0 : BitVec 32) (k0_hw1 : k0_chk1 v0), (k0_dev34 v0) < nD := fun v0 k0_hw1 => k0_hw1.1.2.2.2.2.2.2.2.2.2.2.2.2.2.2.2.2.1
theorem k0_dev36_lt : ∀ (v0 : BitVec 32) (k0_hw1 : k0_chk1 v0), (k0_dev36 v0) < nD := fun v0 k0_hw1 => k0_hw1.1.2.2.2.2.2.2.2.2.2.2.2.2.2.2.2.2.2.1
theorem k0_dev38_lt : ∀ (v0 : BitVec 32) (k0_hw1 : k0_chk1 v0), (k0_dev38 v0) < nD := fun v0 k0_hw1 => k0_hw1.1.2.2.2.2.2.2.2.2.2.2.2.2.2.2.2.2.2.2.1
theorem k0_dev40_lt : ∀ (v0 : BitVec 32) (k0_hw1 : k0_chk1 v0), (k0_dev40 v0) < nD := fun v0 k0_hw1 => k0_hw1.1.2.2.2.2.2.2.2.2.2.2.2.2.2.2.2.2.2.2.2.1
theorem k0_dev42_lt : ∀ (v0 : BitVec 32) (k0_hw1 : k0_chk1 v0), (k0_dev42 v0) < nD := fun v0 k0_hw1 => k0_hw1.1.2.2.2.2.2.2.2.2.2.2.2.2.2.2.2.2.2.2.2.2.1
theorem k0_dev44_lt : ∀ (v0 : BitVec 32) (k0_hw1 : k0_chk1 v0), (k0_dev44 v0) < nD := fun v0 k0_hw1 => k0_hw1.1.2.2.2.2.2.2.2.2.2.2.2.2.2.2.2.2.2.2.2.2.2.1
theorem k0_dev46_lt : ∀ (v0 : BitVec 32) (k0_hw1 : k0_chk1 v0), (k0_dev46 v0) < nD := fun v0 k0_hw1 => k0_hw1.1.2.2.2.2.2.2.2.2.2.2.2.2.2.2.2.2.2.2.2.2.2.2.1
theorem k0_dev48_lt : ∀ (v0 : BitVec 32) (k0_hw1 : k0_chk1 v0), (k0_dev48 v0) < nD := fun v0 k0_hw1 => k0_hw1.1.2.2.2.2.2.2.2.2.2.2.2.2.2.2.2.2.2.2.2.2.2.2.2.1
theorem k0_dev50_lt : ∀ (v0 : BitVec 32) (k0_hw1 : k0_chk1 v0), (k0_dev50 v0) < nD := fun v0 k0_hw1 => k0_hw1.1.2.2.2.2.2.2.2.2.2.2.2.2.2.2.2.2.2.2.2.2.2.2.2.2.1
theorem k0_dev52_lt : ∀ (v0 : BitVec 32) (k0_hw1 : k0_chk1 v0), (k0_dev52 v0) < nD := fun v0 k0_hw1 => k0_hw1.1.2.2.2.2.2.2.2.2.2.2.2.2.2.2.2.2.2.2.2.2.2.2.2.2.2.1
theorem k0_dev54_lt : ∀ (v0 : BitVec 32) (k0_hw1 : k0_chk1 v0), (k0_dev54 v0) < nD := fun v0 k0_hw1 => k0_hw1.1.2.2.2.2.2.2.2.2.2.2.2.2.2.2.2.2.2.2.2.2.2.2.2.2.2.2.1
theorem k0_dev56_lt : ∀ (v0 : BitVec 32) (k0_hw1 : k0_chk1 v0), (k0_dev56 v0) < nD := fun v0 k0_hw1 => k0_hw1.1.2.2.2.2.2.2.2.2.2.2.2.2.2.2.2.2.2.2.2.2.2.2.2.2.2.2.2.1
theorem k0_dev58_lt : ∀ (v0 : BitVec 32) (k0_hw1 : k0_chk1 v0), (k0_dev58 v0) < nD := fun v0 k0_hw1 => k0_hw1.1.2.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.1.2.2.2.2.2.2.2.2.2.2.2.2.2.2.2.2.2.2.2.2.2.2.2.2.2.2.2.2.2.1
theorem k0_dev62_lt : ∀ (v0 : BitVec 32) (k0_hw1 : k0_chk1 v0), (k0_dev62 v0) < nD := fun v0 k0_hw1 => k0_hw1.1.2.2.2.2.2.2.2.2.2.2.2.2.2.2.2.2.2.2.2.2.2.2.2.2.2.2.2.2.2.2.1
theorem k0_dev64_lt : ∀ (v0 : BitVec 32) (k0_hw1 : k0_chk1 v0), (k0_dev64 v0) < nD := fun v0 k0_hw1 => k0_hw1.1.2.2.2.2.2.2.2.2.2.2.2.2.2.2.2.2.2.2.2.2.2.2.2.2.2.2.2.2.2.2.2
theorem k0_dev66_lt : ∀ (v0 : BitVec 32) (k0_hw1 : k0_chk1 v0), (k0_dev66 v0) < nD := fun v0 k0_hw1 => k0_hw1.2.1
theorem k0_dev68_lt : ∀ (v0 : BitVec 32) (k0_hw1 : k0_chk1 v0), (k0_dev68 v0) < nD := fun v0 k0_hw1 => k0_hw1.2.2.1
theorem k0_dev70_lt : ∀ (v0 : BitVec 32) (k0_hw1 : k0_chk1 v0), (k0_dev70 v0) < nD := fun v0 k0_hw1 => k0_hw1.2.2.2.1
theorem k0_dev72_lt : ∀ (v0 : BitVec 32) (k0_hw1 : k0_chk1 v0), (k0_dev72 v0) < nD := fun v0 k0_hw1 => k0_hw1.2.2.2.2.1
theorem k0_dev74_lt : ∀ (v0 : BitVec 32) (k0_hw1 : k0_chk1 v0), (k0_dev74 v0) < nD := fun v0 k0_hw1 => k0_hw1.2.2.2.2.2.1
theorem k0_dev76_lt : ∀ (v0 : BitVec 32) (k0_hw1 : k0_chk1 v0), (k0_dev76 v0) < nD := fun v0 k0_hw1 => k0_hw1.2.2.2.2.2.2.1
theorem k0_dev78_lt : ∀ (v0 : BitVec 32) (k0_hw1 : k0_chk1 v0), (k0_dev78 v0) < nD := fun v0 k0_hw1 => k0_hw1.2.2.2.2.2.2.2.1
theorem k0_dev80_lt : ∀ (v0 : BitVec 32) (k0_hw1 : k0_chk1 v0), (k0_dev80 v0) < nD := fun v0 k0_hw1 => k0_hw1.2.2.2.2.2.2.2.2.1
theorem k0_dev82_lt : ∀ (v0 : BitVec 32) (k0_hw1 : k0_chk1 v0), (k0_dev82 v0) < nD := fun v0 k0_hw1 => k0_hw1.2.2.2.2.2.2.2.2.2.1
theorem k0_dev84_lt : ∀ (v0 : BitVec 32) (k0_hw1 : k0_chk1 v0), (k0_dev84 v0) < nD := fun v0 k0_hw1 => k0_hw1.2.2.2.2.2.2.2.2.2.2.1
theorem k0_dev86_lt : ∀ (v0 : BitVec 32) (k0_hw1 : k0_chk1 v0), (k0_dev86 v0) < nD := fun v0 k0_hw1 => k0_hw1.2.2.2.2.2.2.2.2.2.2.2.1
theorem k0_dev88_lt : ∀ (v0 : BitVec 32) (k0_hw1 : k0_chk1 v0), (k0_dev88 v0) < nD := fun v0 k0_hw1 => k0_hw1.2.2.2.2.2.2.2.2.2.2.2.2.1
theorem k0_dev90_lt : ∀ (v0 : BitVec 32) (k0_hw1 : k0_chk1 v0), (k0_dev90 v0) < nD := fun v0 k0_hw1 => k0_hw1.2.2.2.2.2.2.2.2.2.2.2.2.2.1
theorem k0_dev92_lt : ∀ (v0 : BitVec 32) (k0_hw1 : k0_chk1 v0), (k0_dev92 v0) < nD := fun v0 k0_hw1 => k0_hw1.2.2.2.2.2.2.2.2.2.2.2.2.2.2.1
theorem k0_dev94_lt : ∀ (v0 : BitVec 32) (k0_hw1 : k0_chk1 v0), (k0_dev94 v0) < nD := fun v0 k0_hw1 => k0_hw1.2.2.2.2.2.2.2.2.2.2.2.2.2.2.2.1
theorem k0_dev96_lt : ∀ (v0 : BitVec 32) (k0_hw1 : k0_chk1 v0), (k0_dev96 v0) < nD := fun v0 k0_hw1 => k0_hw1.2.2.2.2.2.2.2.2.2.2.2.2.2.2.2.2.1
theorem k0_dev98_lt : ∀ (v0 : BitVec 32) (k0_hw1 : k0_chk1 v0), (k0_dev98 v0) < nD := fun v0 k0_hw1 => k0_hw1.2.2.2.2.2.2.2.2.2.2.2.2.2.2.2.2.2.1
theorem k0_dev100_lt : ∀ (v0 : BitVec 32) (k0_hw1 : k0_chk1 v0), (k0_dev100 v0) < nD := fun v0 k0_hw1 => k0_hw1.2.2.2.2.2.2.2.2.2.2.2.2.2.2.2.2.2.2.1
theorem k0_dev102_lt : ∀ (v0 : BitVec 32) (k0_hw1 : k0_chk1 v0), (k0_dev102 v0) < nD := fun v0 k0_hw1 => k0_hw1.2.2.2.2.2.2.2.2.2.2.2.2.2.2.2.2.2.2.2.1
theorem k0_dev104_lt : ∀ (v0 : BitVec 32) (k0_hw1 : k0_chk1 v0), (k0_dev104 v0) < nD := fun v0 k0_hw1 => k0_hw1.2.2.2.2.2.2.2.2.2.2.2.2.2.2.2.2.2.2.2.2.1
theorem k0_dev106_lt : ∀ (v0 : BitVec 32) (k0_hw1 : k0_chk1 v0), (k0_dev106 v0) < nD := fun v0 k0_hw1 => k0_hw1.2.2.2.2.2.2.2.2.2.2.2.2.2.2.2.2.2.2.2.2.2.1
theorem k0_dev108_lt : ∀ (v0 : BitVec 32) (k0_hw1 : k0_chk1 v0), (k0_dev108 v0) < nD := fun v0 k0_hw1 => k0_hw1.2.2.2.2.2.2.2.2.2.2.2.2.2.2.2.2.2.2.2.2.2.2.1
theorem k0_dev110_lt : ∀ (v0 : BitVec 32) (k0_hw1 : k0_chk1 v0), (k0_dev110 v0) < nD := fun v0 k0_hw1 => k0_hw1.2.2.2.2.2.2.2.2.2.2.2.2.2.2.2.2.2.2.2.2.2.2.2.1
theorem k0_dev112_lt : ∀ (v0 : BitVec 32) (k0_hw1 : k0_chk1 v0), (k0_dev112 v0) < nD := fun v0 k0_hw1 => k0_hw1.2.2.2.2.2.2.2.2.2.2.2.2.2.2.2.2.2.2.2.2.2.2.2.2.1
theorem k0_dev114_lt : ∀ (v0 : BitVec 32) (k0_hw1 : k0_chk1 v0), (k0_dev114 v0) < nD := fun v0 k0_hw1 => k0_hw1.2.2.2.2.2.2.2.2.2.2.2.2.2.2.2.2.2.2.2.2.2.2.2.2.2.1
theorem k0_dev116_lt : ∀ (v0 : BitVec 32) (k0_hw1 : k0_chk1 v0), (k0_dev116 v0) < nD := fun v0 k0_hw1 => k0_hw1.2.2.2.2.2.2.2.2.2.2.2.2.2.2.2.2.2.2.2.2.2.2.2.2.2.2.1
theorem k0_dev118_lt : ∀ (v0 : BitVec 32) (k0_hw1 : k0_chk1 v0), (k0_dev118 v0) < nD := fun v0 k0_hw1 => k0_hw1.2.2.2.2.2.2.2.2.2.2.2.2.2.2.2.2.2.2.2.2.2.2.2.2.2.2.2.1
theorem k0_dev120_lt : ∀ (v0 : BitVec 32) (k0_hw1 : k0_chk1 v0), (k0_dev120 v0) < nD := fun v0 k0_hw1 => k0_hw1.2.2.2.2.2.2.2.2.2.2.2.2.2.2.2.2.2.2.2.2.2.2.2.2.2.2.2.2.1
theorem k0_dev122_lt : ∀ (v0 : BitVec 32) (k0_hw1 : k0_chk1 v0), (k0_dev122 v0) < nD := fun v0 k0_hw1 => k0_hw1.2.2.2.2.2.2.2.2.2.2.2.2.2.2.2.2.2.2.2.2.2.2.2.2.2.2.2.2.2.1
theorem k0_dev125_lt : ∀ (v0 : BitVec 32) (k0_hw1 : k0_chk1 v0), (k0_dev125 v0) < nD := fun v0 k0_hw1 => k0_hw1.2.2.2.2.2.2.2.2.2.2.2.2.2.2.2.2.2.2.2.2.2.2.2.2.2.2.2.2.2.2.1
theorem k0_dev126_lt : ∀ (v0 : BitVec 32) (k0_hw1 : k0_chk1 v0), (k0_dev126 v0) < nD := fun v0 k0_hw1 => k0_hw1.2.2.2.2.2.2.2.2.2.2.2.2.2.2.2.2.2.2.2.2.2.2.2.2.2.2.2.2.2.2.2

def k0_off26 (v1918 : BitVec 32) : Fin 2 → Nat :=
  let c128_i32_2436 : BitVec 32 := 128#32
  let v1920 : BitVec 32 := Scalar.muli v1918 c128_i32_2436
  let v1921 : Index := Scalar.indexCast v1920
  let c0_2437 : Index := 0#32
  ![v1921.toNat, 0]

def k0_chk27 (v1918 : BitVec 32) : Prop :=
  (∀ a, (k0_off26 v1918) a + S128x256.size a ≤ S4096x256.size a)
theorem k0_off26_inb : ∀ (v1918 : BitVec 32) (k0_hw27 : k0_chk27 v1918), ∀ a, (k0_off26 v1918) a + S128x256.size a ≤ S4096x256.size a := fun v1918 k0_hw27 => k0_hw27

def k0_off27 (v1923 : BitVec 32) : Fin 2 → Nat :=
  let c128_i32_2438 : BitVec 32 := 128#32
  let v1925 : BitVec 32 := Scalar.muli v1923 c128_i32_2438
  let v1926 : Index := Scalar.indexCast v1925
  let c0_2439 : Index := 0#32
  ![v1926.toNat, 0]

def k0_chk28 (v1923 : BitVec 32) : Prop :=
  (∀ a, (k0_off27 v1923) a + S128x256.size a ≤ S4096x256.size a)
theorem k0_off27_inb : ∀ (v1923 : BitVec 32) (k0_hw28 : k0_chk28 v1923), ∀ a, (k0_off27 v1923) a + S128x256.size a ≤ S4096x256.size a := fun v1923 k0_hw28 => k0_hw28

def k0_off28 (v1928 : BitVec 32) : Fin 2 → Nat :=
  let c128_i32_2440 : BitVec 32 := 128#32
  let v1930 : BitVec 32 := Scalar.muli v1928 c128_i32_2440
  let v1931 : Index := Scalar.indexCast v1930
  let c0_2441 : Index := 0#32
  ![v1931.toNat, 0]

def k0_chk29 (v1928 : BitVec 32) : Prop :=
  (∀ a, (k0_off28 v1928) a + S128x256.size a ≤ S4096x256.size a)
theorem k0_off28_inb : ∀ (v1928 : BitVec 32) (k0_hw29 : k0_chk29 v1928), ∀ a, (k0_off28 v1928) a + S128x256.size a ≤ S4096x256.size a := fun v1928 k0_hw29 => k0_hw29

def k0_off29 (v1933 : BitVec 32) : Fin 2 → Nat :=
  let c128_i32_2442 : BitVec 32 := 128#32
  let v1935 : BitVec 32 := Scalar.muli v1933 c128_i32_2442
  let v1936 : Index := Scalar.indexCast v1935
  let c0_2443 : Index := 0#32
  ![v1936.toNat, 0]

def k0_chk30 (v1933 : BitVec 32) : Prop :=
  (∀ a, (k0_off29 v1933) a + S128x256.size a ≤ S4096x256.size a)
theorem k0_off29_inb : ∀ (v1933 : BitVec 32) (k0_hw30 : k0_chk30 v1933), ∀ a, (k0_off29 v1933) a + S128x256.size a ≤ S4096x256.size a := fun v1933 k0_hw30 => k0_hw30

def k0_off30 (v1944 : BitVec 32) : Fin 2 → Nat :=
  let c128_i32_2449 : BitVec 32 := 128#32
  let v1946 : BitVec 32 := Scalar.muli v1944 c128_i32_2449
  let v1947 : Index := Scalar.indexCast v1946
  let c0_2450 : Index := 0#32
  ![v1947.toNat, 0]

def k0_chk31 (v1944 : BitVec 32) : Prop :=
  (∀ a, (k0_off30 v1944) a + S128x256.size a ≤ S4096x256.size a)
theorem k0_off30_inb : ∀ (v1944 : BitVec 32) (k0_hw31 : k0_chk31 v1944), ∀ a, (k0_off30 v1944) a + S128x256.size a ≤ S4096x256.size a := fun v1944 k0_hw31 => k0_hw31

def k0_off31 (v1949 : BitVec 32) : Fin 2 → Nat :=
  let c128_i32_2451 : BitVec 32 := 128#32
  let v1951 : BitVec 32 := Scalar.muli v1949 c128_i32_2451
  let v1952 : Index := Scalar.indexCast v1951
  let c0_2452 : Index := 0#32
  ![v1952.toNat, 0]

def k0_chk32 (v1949 : BitVec 32) : Prop :=
  (∀ a, (k0_off31 v1949) a + S128x256.size a ≤ S4096x256.size a)
theorem k0_off31_inb : ∀ (v1949 : BitVec 32) (k0_hw32 : k0_chk32 v1949), ∀ a, (k0_off31 v1949) a + S128x256.size a ≤ S4096x256.size a := fun v1949 k0_hw32 => k0_hw32

def k0_off32 (v1954 : BitVec 32) : Fin 2 → Nat :=
  let c128_i32_2453 : BitVec 32 := 128#32
  let v1956 : BitVec 32 := Scalar.muli v1954 c128_i32_2453
  let v1957 : Index := Scalar.indexCast v1956
  let c0_2454 : Index := 0#32
  ![v1957.toNat, 0]

def k0_chk33 (v1954 : BitVec 32) : Prop :=
  (∀ a, (k0_off32 v1954) a + S128x256.size a ≤ S4096x256.size a)
theorem k0_off32_inb : ∀ (v1954 : BitVec 32) (k0_hw33 : k0_chk33 v1954), ∀ a, (k0_off32 v1954) a + S128x256.size a ≤ S4096x256.size a := fun v1954 k0_hw33 => k0_hw33

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S33 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Ops.lean ====
/-
# The kernel's body as a list of operations

The kernel runs one fixed sequence: a neighbour barrier, then 124 transfers between neighbours of a ring
interleaved with matrix products. Transfer `t < 62` travels clockwise, transfer `t ≥ 62` counter-clockwise;
transfer `t` lands in rows `128 + 32 t … 128 + 32 t + 31` of the gathered operand of the neighbour it is sent to.
This module states the sequence as data (`Op`, `ops`), gives each operation's program (`runOp`), and proves that
the printed body is the barrier followed by those programs (`body_eq`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Tactic

@[expose] public section

noncomputable section

namespace Cert.RingGemm

open Cert.KernelIdeal Cert.KernelIdeal.Gen
open Idealize.ShloMosaic Idealize.ShloMosaic.TcCoe
open Idealize.SL.Sem

variable {F : FTy → Type} [FloatOps F]

/-! ## Buffers and semaphores of a transfer -/

/-- The left operand's block, the right operand's block, the neighbour table, the output block and the gathered
    left operand, as whole buffers. -/
abbrev xM : Memref sig .tc .vmem S128x4096 .bf16 := Memref.whole cc0_stg0_0
abbrev wM : Memref sig .tc .vmem S4096x256 .bf16 := Memref.whole cc0_stg1_0
abbrev tabM : Memref sig .tc .smem S33 .i32 := Memref.whole cc0_stg2_0
abbrev outM : Memref sig .tc .vmem S4096x256 .f32 := Memref.whole cc0_stg3_0
abbrev gM : Memref sig .tc .vmem S4096x4096 .bf16 := Memref.whole cc0_scratch0

/-- 32 rows from `32 q` lie inside the gathered operand. -/
theorem inb_grp (q : Fin 128) : ∀ a, (![32 * q.val, 0] : Fin 2 → Nat) a + S32x4096.size a ≤ S4096x4096.size a := by
  intro a; have := q.isLt; fin_cases a
  · show 32 * q.val + 32 ≤ 4096; omega
  · show 0 + 4096 ≤ 4096; omega

/-- 32 rows from `32 j` lie inside the left operand's block. -/
theorem inb_own (j : Fin 4) : ∀ a, (![32 * j.val, 0] : Fin 2 → Nat) a + S32x4096.size a ≤ S128x4096.size a := by
  intro a; have := j.isLt; fin_cases a
  · show 32 * j.val + 32 ≤ 128; omega
  · show 0 + 4096 ≤ 4096; omega

/-- One entry of a 16 × 4 array lies inside it. -/
theorem inb_sem (a : Fin 16) (b : Fin 4) : ∀ i, (![a.val, b.val] : Fin 2 → Nat) i + S1x1.size i ≤ S16x4.size i := by
  intro i; have := a.isLt; have := b.isLt; fin_cases i
  · show a.val + 1 ≤ 16; omega
  · show b.val + 1 ≤ 4; omega

/-- 32 rows of the gathered operand are whole words. -/
theorem words_grp (q : Fin 128) :
    (Rect.unit (s := S4096x4096) ![32 * q.val, 0] S32x4096.size (inb_grp q)).WholeWords (EltTy.packing .bf16) := by
  revert q; decide

/-- 32 rows of the left operand's block are whole words. -/
theorem words_own (j : Fin 4) :
    (Rect.unit (s := S128x4096) ![32 * j.val, 0] S32x4096.size (inb_own j)).WholeWords (EltTy.packing .bf16) := by
  revert j; decide

/-- Rows `32 q … 32 q + 31` of the gathered operand. -/
abbrev grpR (q : Fin 128) : Rect S4096x4096 := Rect.unit (s := S4096x4096) ![32 * q.val, 0] S32x4096.size (inb_grp q)
/-- Rows `32 j … 32 j + 31` of the left operand's block. -/
abbrev ownR (j : Fin 4) : Rect S128x4096 := Rect.unit (s := S128x4096) ![32 * j.val, 0] S32x4096.size (inb_own j)
/-- Those rows as memory references. -/
abbrev grpM (q : Fin 128) : Memref sig .tc .vmem S32x4096 .bf16 := gM.slice (grpR q) (fun _ => rfl)
abbrev ownM (j : Fin 4) : Memref sig .tc .vmem S32x4096 .bf16 := xM.slice (ownR j) (fun _ => rfl)

theorem wordExact_grp (q : Fin 128) : (grpM q).view.WordExact := (Memref.isWhole_whole cc0_scratch0).wordExact_slice rfl _ (words_grp q)
theorem wordExact_own (j : Fin 4) : (ownM j).view.WordExact := (Memref.isWhole_whole cc0_stg0_0).wordExact_slice rfl _ (words_own j)

/-- A semaphore of a 16 × 4 array. -/
abbrev semAt (A : DmaSems sig S16x4) (a : Fin 16) (b : Fin 4) : DmaSem sig :=
  ((A.slice (Rect.unit (s := S16x4) ![a.val, b.val] S1x1.size (inb_sem a b))).squeeze S_ squeezes_S1x1_S_).sem

/-- Does transfer `t` travel clockwise? -/
abbrev cw (t : Fin 124) : Bool := Nat.blt t.val 62
/-- The sub-block (of four) transfer `t` carries. -/
def sub (t : Fin 124) : Fin 4 := ⟨t.val % 4, Nat.mod_lt _ (by decide)⟩
/-- Transfer `t`'s hop, counted from 0. -/
def hop (t : Fin 124) : Fin 16 := ⟨cond (cw t) (t.val / 4) (30 - t.val / 4), by
  have := t.isLt; cases h : cw t <;> simp only [cond]
  · have : ¬ t.val < 62 := fun h' => by rw [cw, Nat.blt_eq.mpr h'] at h; exact absurd h (by decide)
    omega
  · have : t.val < 62 := Nat.blt_eq.mp h
    omega⟩
/-- The group of rows transfer `t` lands in. -/
def grp (t : Fin 124) : Fin 128 := ⟨t.val + 4, by omega⟩
/-- The group of rows transfer `t` past the first hop is read from: the one the transfer before it landed in. -/
def grpSrc (t : Fin 124) : Fin 128 := ⟨cond (cw t) t.val ((t.val + 8) % 128), by
  have := t.isLt; cases h : cw t <;> simp only [cond]
  · exact Nat.mod_lt _ (by decide)
  · omega⟩
/-- Is `t` a first hop, read from the left operand's own block? -/
abbrev isFirst (t : Fin 124) : Bool := (Nat.blt t.val 4) || (Nat.ble 120 t.val)

/-- Transfer `t`'s source. -/
def srcM (t : Fin 124) : Memref sig .tc .vmem S32x4096 .bf16 := cond (isFirst t) (ownM (sub t)) (grpM (grpSrc t))
theorem wordExact_src (t : Fin 124) : (srcM t).view.WordExact := by
  unfold srcM; cases isFirst t
  · exact wordExact_grp _
  · exact wordExact_own _
/-- The semaphore transfer `t` completes on at its sender. -/
def sendSem (t : Fin 124) : DmaSem sig := cond (cw t) (semAt cc0_scratch1 (hop t) (sub t)) (semAt cc0_scratch3 (hop t) (sub t))
/-- The semaphore transfer `t` completes on at its receiver. -/
def recvSem (t : Fin 124) : DmaSem sig := cond (cw t) (semAt cc0_scratch2 (hop t) (sub t)) (semAt cc0_scratch4 (hop t) (sub t))

/-- The device a table word names. -/
abbrev devL (v0 : BitVec 32) (h : k0_chk1 v0) : Dev nD := ⟨k0_dev1 v0, k0_dev1_lt v0 h⟩
abbrev devR (v1 : BitVec 32) (h : k0_chk2 v1) : Dev nD := ⟨k0_dev2 v1, k0_dev2_lt v1 h⟩

/-- The device transfer `t` is sent to. -/
def target (v0 : BitVec 32) (h0 : k0_chk1 v0) (v1 : BitVec 32) (h1 : k0_chk2 v1) (t : Fin 124) : Dev nD :=
  cond (cw t) (devR v1 h1) (devL v0 h0)

/-! ## The operations -/

/-- One entry of the neighbour table lies inside it. -/
theorem inb_tab (i : Fin 33) : ∀ a, (![i.val] : Fin 1 → Nat) a + S1.size a ≤ S33.size a := by
  intro a; have := i.isLt; fin_cases a; show i.val + 1 ≤ 33; omega
/-- A batch of `n` slots from slot `lo` lies inside the gathered operand. -/
theorem inb_batch (lo : Fin 29) : ∀ a, (![128 * lo.val, 0] : Fin 2 → Nat) a + S512x4096.size a ≤ S4096x4096.size a := by
  intro a; have := lo.isLt; fin_cases a
  · show 128 * lo.val + 512 ≤ 4096; omega
  · show 0 + 4096 ≤ 4096; omega
/-- The strip of 128 rows `k` of a batch of four lies inside it. -/
theorem slices_strip (k : Fin 4) : S512x256.Slices ![128 * k.val, 0] S128x256 := by revert k; decide

/-- Read entry `i` of the neighbour table. -/
abbrev loadTab (i : Fin 33) : Prog (TpuEff nD τ sig (Elt F) Λ₀ .tc) (Elt F .i32) :=
  smemLoad tabM (Rect.unit (s := S33) ![i.val] S1.size (inb_tab i)) numel1_S1 rfl
/-- Read the whole right operand's block. -/
abbrev loadW : Prog (TpuEff nD τ sig (Elt F) Λ₀ .tc) (Vec F S4096x256 .bf16) :=
  Prog.lift (.load wM (Rect.unit (s := S4096x256) ![0, 0] S4096x256.size inb_S4096x256_S4096x256_0_0).toLoadRect (View.loadsAt_vmem h_S4096x256))

/-- Store strip `k`, of 128 rows, at the rows of the device entry `1 + slot` of the table names. -/
def putStrip (slot : Fin 32) (y : FVec F S128x256 .f32) : Prog (TpuEff nD τ sig (Elt F) Λ₀ .tc) PUnit := do
  let v : Elt F .i32 ← loadTab ⟨slot.val + 1, by omega⟩
  have hw : k0_chk3 v := (← Prog.lift (TpuEff.assume (k0_chk3 v) (k0_chk3.dec v))).down
  let _ : Vec F S128x256 .f32 ← Prog.lift (.load outM (Rect.unit (s := S4096x256) (k0_off2 v) S128x256.size (k0_off2_inb v hw)).toLoadRect (View.loadsAt_vmem h_S128x256))
  Prog.lift (.store outM (Rect.unit (s := S4096x256) (k0_off2 v) S128x256.size (k0_off2_inb v hw)) y Finset.univ (View.stores_vmem_bits_univ h_S128x256 rfl) (.inl rfl))

/-- Store strips `k, …, 3` of a batch of four. -/
def putStrips4 (lo : Fin 29) (y : FVec F S512x256 .f32) : List (Fin 4) → Prog (TpuEff nD τ sig (Elt F) Λ₀ .tc) PUnit
  | [] => .ret ⟨⟩
  | k :: ks => (putStrip ⟨lo.val + k.val, by omega⟩ (extractStridedSlice S128x256 ![128 * k.val, 0] y (slices_strip k))).bind fun _ => putStrips4 lo y ks

/-- The product of four slots' rows. -/
def batch4 (lo : Fin 29) : Prog (TpuEff nD τ sig (Elt F) Λ₀ .tc) PUnit := do
  let g : Vec F S512x4096 .bf16 ← Prog.lift (.load gM (Rect.unit (s := S4096x4096) ![128 * lo.val, 0] S512x4096.size (inb_batch lo)).toLoadRect (View.loadsAt_vmem h_S512x4096))
  let w : Vec F S4096x256 .bf16 ← loadW
  putStrips4 lo (k0_pay3 g w) [0, 1, 2, 3]

/-- The strip of 128 rows `k` of the last batch, of three slots, lies inside it. -/
theorem slices_strip3 (k : Fin 3) : S384x256.Slices ![128 * k.val, 0] S128x256 := by revert k; decide

/-- Store the strips of the last batch. -/
def putStrips3 (y : FVec F S384x256 .f32) : List (Fin 3) → Prog (TpuEff nD τ sig (Elt F) Λ₀ .tc) PUnit
  | [] => .ret ⟨⟩
  | k :: ks => (putStrip ⟨17 + k.val, by omega⟩ (extractStridedSlice S128x256 ![128 * k.val, 0] y (slices_strip3 k))).bind fun _ => putStrips3 y ks

/-- The product of the last three slots' rows. -/
def batch3 : Prog (TpuEff nD τ sig (Elt F) Λ₀ .tc) PUnit := do
  let g : Vec F S384x4096 .bf16 ← Prog.lift (.load gM (Rect.unit (s := S4096x4096) ![2176, 0] S384x4096.size inb_S4096x4096_S384x4096_2176_0).toLoadRect (View.loadsAt_vmem h_S384x4096))
  let w : Vec F S4096x256 .bf16 ← loadW
  putStrips3 (k0_pay38 g w) [0, 1, 2]

/-- The product of the device's own rows. -/
def ownRows : Prog (TpuEff nD τ sig (Elt F) Λ₀ .tc) PUnit := do
  let x : Vec F S128x4096 .bf16 ← Prog.lift (.load xM (Rect.unit (s := S128x4096) ![0, 0] S128x4096.size inb_S128x4096_S128x4096_0_0).toLoadRect (View.loadsAt_vmem h_S128x4096))
  let w : Vec F S4096x256 .bf16 ← loadW
  let d : Dev nD ← Prog.lift .deviceId
  let _ : Vec F S128x256 .f32 ← Prog.lift (.load outM (Rect.unit (s := S4096x256) (k0_off1 d) S128x256.size (k0_off1_inb d)).toLoadRect (View.loadsAt_vmem h_S128x256))
  Prog.lift (.store outM (Rect.unit (s := S4096x256) (k0_off1 d) S128x256.size (k0_off1_inb d)) (k0_pay2 (k0_pay1 x) w) Finset.univ (View.stores_vmem_bits_univ h_S128x256 rfl) (.inl rfl))

/-- Start transfer `t`. -/
def sendProg (d : Dev nD) (t : Fin 124) : Prog (TpuEff nD τ sig (Elt F) Λ₀ .tc) PUnit :=
  Prog.lift (.enqueueDma (srcM t) (.remote (Dev.tc d) (grpM (grp t)) (.dma (sendSem t))) (.dma (recvSem t)) (wordExact_src t) (wordExact_grp _) ⟨⟨rfl, Or.inl rfl⟩, trivial⟩)
/-- Wait for transfer `t` to have arrived from the neighbour. -/
def recvProg (t : Fin 124) : Prog (TpuEff nD τ sig (Elt F) Λ₀ .tc) PUnit :=
  Prog.lift (.waitDma2 (recvSem t) (srcM t) (grpM (grp t)) (wordExact_src t) (wordExact_grp _))
/-- Wait for transfer `t` to have left this device. -/
def doneProg (t : Fin 124) : Prog (TpuEff nD τ sig (Elt F) Λ₀ .tc) PUnit :=
  Prog.lift (.waitDma2 (sendSem t) (grpM (grp t)) (srcM t) (wordExact_grp _) (wordExact_src t))

/-- The operations of the body past the barrier. -/
inductive Op
  | send (t : Fin 124)
  | recv (t : Fin 124)
  | done (t : Fin 124)
  | own
  | four (lo : Fin 29)
  | three
  deriving DecidableEq

/-- An operation's program, under the two table words naming the neighbours. -/
def runOp (v0 : BitVec 32) (h0 : k0_chk1 v0) (v1 : BitVec 32) (h1 : k0_chk2 v1) : Op → Prog (TpuEff nD τ sig (Elt F) Λ₀ .tc) PUnit
  | .send t => sendProg (target v0 h0 v1 h1 t) t
  | .recv t => recvProg t
  | .done t => doneProg t
  | .own => ownRows
  | .four lo => batch4 lo
  | .three => batch3

/-- A list of operations' programs, one after the other. -/
def runOps (v0 : BitVec 32) (h0 : k0_chk1 v0) (v1 : BitVec 32) (h1 : k0_chk2 v1) : List Op → Prog (TpuEff nD τ sig (Elt F) Λ₀ .tc) PUnit
  | [] => .ret ⟨⟩
  | o :: os => (runOp v0 h0 v1 h1 o).bind fun _ => runOps v0 h0 v1 h1 os

/-- Transfer number of clockwise hop `a` (from 0), sub-block `b`, if there is one. -/
def cwOp (f : Fin 124 → Op) (a b : Nat) : List Op := if h : 4 * a + b < 62 ∧ a < 16 then [f ⟨4 * a + b, by omega⟩] else []
/-- Transfer number of counter-clockwise hop `a` (from 0), sub-block `b`, if there is one. -/
def ccwOp (f : Fin 124 → Op) (a b : Nat) : List Op := if h : 62 ≤ 4 * (30 - a) + b ∧ b < 4 ∧ a < 16 then [f ⟨4 * (30 - a) + b, by omega⟩] else []

/-- The products after step `s` (from 0). -/
def batches : Nat → List Op
  | 3 => [.four 1, .four 28]
  | 7 => [.four 5, .four 24]
  | 11 => [.four 9, .four 20]
  | 15 => [.four 13, .three]
  | _ => []

/-- The body past the barrier. -/
def ops : List Op :=
  ((List.range 4).flatMap fun j => cwOp .send 0 j ++ ccwOp .send 0 j) ++ [.own]
  ++ ((List.range 16).flatMap fun s =>
      ((List.range 4).flatMap fun j => cwOp .recv s j ++ cwOp .send (s + 1) j ++ ccwOp .recv s j ++ ccwOp .send (s + 1) j) ++ batches s)
  ++ ((List.range 16).flatMap fun s => (List.range 4).flatMap fun j => cwOp .done s j)
  ++ ((List.range 16).flatMap fun s => (List.range 4).flatMap fun j => ccwOp .done s j)

/-- The barrier with the two neighbours, whose table words it returns. -/
def barrierProg (k : (v0 : BitVec 32) → k0_chk1 v0 → (v1 : BitVec 32) → k0_chk2 v1 → Prog (TpuEff nD τ sig (Elt F) Λ₀ .tc) PUnit) :
    Prog (TpuEff nD τ sig (Elt F) Λ₀ .tc) PUnit := do
  let v0 : Elt F .i32 ← loadTab 0
  have h0 : k0_chk1 v0 := (← Prog.lift (TpuEff.assume (k0_chk1 v0) (k0_chk1.dec v0))).down
  let v1 : Elt F .i32 ← loadTab 1
  have h1 : k0_chk2 v1 := (← Prog.lift (TpuEff.assume (k0_chk2 v1) (k0_chk2.dec v1))).down
  semSignalWord (devL v0 h0) barrier0 1#32
  semSignalWord (devR v1 h1) barrier0 1#32
  semWaitWord barrier0 2#32
  k v0 h0 v1 h1

set_option maxRecDepth 65536 in
set_option maxHeartbeats 4000000 in
/-- The printed body is the barrier followed by the operations of `ops`. -/
theorem body_eq : cc0_body (F := F) xM (Memref.isWhole_whole _) wM (Memref.isWhole_whole _) tabM (Memref.isWhole_whole _)
      outM (Memref.isWhole_whole _) gM (Memref.isWhole_whole _) cc0_scratch1 cc0_scratch2 cc0_scratch3 cc0_scratch4
    = barrierProg fun v0 h0 v1 h1 => runOps v0 h0 v1 h1 ops := by
  chain_rfl

end Cert.RingGemm

end
-- ==== Proof.Ring.lean ====
/-
# The ring, the transfers' contents and the schedule

The 32 devices stand on a cycle (`cyc`, `pos`). Slot `s` of device `c`'s gathered operand is to hold the block of
the device `s` places before `c` on the cycle (`org`, `gath`). The schedule (`sched`) says what each semaphore's
completion hands over: the barrier, the rows a neighbour may write; a receive semaphore, the landed rows; a send
semaphore, the lent share of the rows read.
-/
module

public import proofs.«01_k».proof.Proof.Ops
public import Idealize.ShloMosaic.Lib.Rounds
public import Idealize.ShloMosaic.Lib.Pipeline.Launch
public import Idealize.ShloMosaic.Lib.Pipeline.Kit

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device at place `k` of the cycle. -/
def cyc (k : Fin 32) : Dev nD :=
  (![0, 3, 4, 7, 15, 12, 11, 8, 16, 19, 20, 23, 31, 28, 27, 24, 25, 26, 29, 30, 22, 21, 18, 17, 9, 10, 13, 14, 6, 5, 2, 1] : Fin 32 → Fin 32) k
/-- A device's place on the cycle. -/
def pos (c : Dev nD) : Fin 32 :=
  (![0, 31, 30, 1, 2, 29, 28, 3, 7, 24, 25, 6, 5, 26, 27, 4, 8, 23, 22, 9, 10, 21, 20, 11, 15, 16, 17, 14, 13, 18, 19, 12] : Fin 32 → Fin 32) c

theorem pos_cyc (k : Fin 32) : pos (cyc k) = k := by revert k; decide
theorem cyc_pos (c : Dev nD) : cyc (pos c) = c := by revert c; decide

/-- The next device on the cycle, and the one before. -/
def right (c : Dev nD) : Dev nD := cyc (pos c + 1)
def left (c : Dev nD) : Dev nD := cyc (pos c - 1)
/-- The device whose block slot `s` of device `c` is to hold. -/
def org (c : Dev nD) (s : Fin 32) : Dev nD := cyc (pos c - s)

/-- Arithmetic of places. -/
theorem place_sub_add (a b : Fin 32) : a - b + b = a := by revert a b; decide +kernel
theorem place_add_sub (a b : Fin 32) : a + b - b = a := by revert a b; decide +kernel
theorem place_sub_zero (a : Fin 32) : a - 0 = a := by revert a; decide +kernel
theorem place_succ (a s : Fin 32) : a + 1 - (s + 1) = a - s := by revert a s; decide +kernel
theorem place_pred (a s : Fin 32) : a - 1 - s = a - (s + 1) := by revert a s; decide +kernel
theorem place_sub_sub (a b : Fin 32) : a - (a - b) = b := by revert a b; decide +kernel

theorem right_left (c : Dev nD) : right (left c) = c := by unfold right left; rw [pos_cyc, place_sub_add, cyc_pos]
theorem left_right (c : Dev nD) : left (right c) = c := by unfold right left; rw [pos_cyc, place_add_sub, cyc_pos]
theorem org_zero (c : Dev nD) : org c 0 = c := by unfold org; rw [place_sub_zero, cyc_pos]
theorem org_right (c : Dev nD) (s : Fin 32) : org (right c) (s + 1) = org c s := by
  unfold org right; rw [pos_cyc, place_succ]
theorem org_left (c : Dev nD) (s : Fin 32) : org (left c) s = org c (s + 1) := by
  unfold org left; rw [pos_cyc, place_pred]
/-- The slot of device `c` that holds device `d`'s block. -/
def slotOf (c d : Dev nD) : Fin 32 := pos c - pos d
theorem org_slotOf (c d : Dev nD) : org c (slotOf c d) = d := by unfold org slotOf; rw [place_sub_sub, cyc_pos]
theorem slotOf_org (c : Dev nD) (s : Fin 32) : slotOf c (org c s) = s := by unfold org slotOf; rw [pos_cyc, place_sub_sub]
theorem org_injective (c : Dev nD) : Function.Injective (org c) := Function.LeftInverse.injective (slotOf_org c)
/-- The ring as a permutation of the devices. -/
def ring : Dev nD ≃ Dev nD := ⟨right, left, left_right, right_left⟩

/-- The device transfer `t` is sent to. -/
def tgt (c : Dev nD) (t : Fin 124) : Dev nD := cond (cw t) (right c) (left c)

/-! ## Contents -/

/-- A row and a column of a left operand's block. -/
def ix (r : Fin 128) (k : Fin 4096) : S128x4096.Idx := fun a => match a with | ⟨0, _⟩ => r | ⟨1, _⟩ => k

/-- The slot of a row of the gathered operand. -/
def slotRow (i : S4096x4096.Idx) : Fin 32 := ⟨(i 0).val / 128, by have h : (i 0).val < 4096 := (i 0).isLt; omega⟩

section Contents
variable (X : Dev nD → (cc0_stg0_0 : Ref sig .tc).ty.Contents (Elt F))

/-- What device `c`'s gathered operand is to hold: at slot `s`, the block of `org c s`. -/
def gath (c : Dev nD) : (cc0_scratch0 : Ref sig .tc).ty.Contents (Elt F) := fun i =>
  X (org c (slotRow i)) (ix ⟨(i 0).val % 128, Nat.mod_lt _ (by decide)⟩ (i 1))

/-- Group `q` of device `c`'s gathered operand, at a share and with contents. -/
def gPts (c : Dev nD) (q : Fin 128) (sh : PosShare TreeShare) (f : (cc0_scratch0 : Ref sig .tc).ty.Contents (Elt F)) : sProp 𝕄 :=
  ((c : Thread nD τ).loc cc0_scratch0) ↦[(grpM q).view.set]{sh} f
/-- Sub-block `j` of device `c`'s own block, at a share and with contents. -/
def xPts (c : Dev nD) (j : Fin 4) (sh : PosShare TreeShare) (f : (cc0_stg0_0 : Ref sig .tc).ty.Contents (Elt F)) : sProp 𝕄 :=
  ((c : Thread nD τ).loc cc0_stg0_0) ↦[(ownM j).view.set]{sh} f

/-- The share of its own block a first hop is lent. -/
def lent (t : Fin 124) : PosShare TreeShare := cond (cw t) fullShare.right.left fullShare.right.right

/-- The rows transfer `t` reads at device `c`, at the share it is lent. -/
def srcPts (c : Dev nD) (t : Fin 124) : sProp 𝕄 :=
  cond (isFirst t) (xPts c (sub t) (lent t) (X c)) (gPts c (grpSrc t) fullShare.right (gath X c))

end Contents

instance gPts_storable (c : Dev nD) (q) (sh) (f) : BI.Storable (upEmb : UEmb _ 𝕄) (gPts (F := F) c q sh f) := by unfold gPts; infer_instance
instance xPts_storable (c : Dev nD) (j) (sh) (f) : BI.Storable (upEmb : UEmb _ 𝕄) (xPts (F := F) c j sh f) := by unfold xPts; infer_instance
instance srcPts_storable (X) (c : Dev nD) (t) : BI.Storable (upEmb : UEmb _ 𝕄) (srcPts (F := F) X c t) := by
  unfold srcPts; cases isFirst t <;> (dsimp only [cond]; infer_instance)

/-- What a transfer moves is the same for all. -/
abbrev N : ℕ := (grpM 0).view.dmaCredit
theorem N_pos : 0 < N := View.dmaCredit_pos _ (by decide)
theorem credit_grp (q : Fin 128) : (grpM q).view.dmaCredit = N := rfl
theorem credit_src (t : Fin 124) : (srcM t).view.dmaCredit = N := by
  unfold srcM; cases isFirst t <;> rfl

/-- The transfer before `t` on its way, at the source of `t`, whose rows `t` forwards. -/
theorem slot_grp (t : Fin 124) (k : S32x4096.Idx) :
    slotRow ((grpM (grp t)).view.emb k) = ⟨t.val / 4 + 1, by omega⟩ := by
  apply Fin.ext
  have h : (k 0).val < 32 := (k 0).isLt
  show (32 * (t.val + 4) + 1 * (k 0).val) / 128 = t.val / 4 + 1
  omega

/-! ## What a semaphore is for -/

/-- A semaphore's use: the barrier, the send or the receive end of a transfer, or none. -/
inductive Kind
  | bar
  | snd (t : Fin 124)
  | rcv (t : Fin 124)
  | idle
  deriving DecidableEq

/-- The clockwise transfer at entry `i` of an array. -/
def cwAt (f : Fin 124 → Kind) (i : Nat) : Kind := if h : i < 62 then f ⟨i, by omega⟩ else .idle
/-- The counter-clockwise transfer at entry `i` of an array. -/
def ccwAt (f : Fin 124 → Kind) (i : Nat) : Kind :=
  if h : 62 ≤ 4 * (30 - i / 4) + i % 4 then f ⟨4 * (30 - i / 4) + i % 4, by omega⟩ else .idle

/-- The use of a semaphore, from its number. -/
def kindOf : SemLoc sig → Kind
  | .reg s => if s = barrier0 then .bar else .idle
  | .dma q =>
    if q.val < 4 then .idle
    else if q.val < 68 then cwAt .snd (q.val - 4)
    else if q.val < 132 then cwAt .rcv (q.val - 68)
    else if q.val < 196 then ccwAt .snd (q.val - 132)
    else ccwAt .rcv (q.val - 196)

theorem kind_bar : kindOf (.reg barrier0) = .bar := by decide
theorem kind_snd (t : Fin 124) : kindOf (.dma (sendSem t)) = .snd t := by revert t; decide +kernel
theorem kind_rcv (t : Fin 124) : kindOf (.dma (recvSem t)) = .rcv t := by revert t; decide +kernel
theorem kind_stage (q : DmaSem sig) (h : q.val < 4) : kindOf (.dma q) = .idle := by
  dsimp only [kindOf]; exact if_pos h

/-- The cells of device `c`. -/
abbrev barCell (c : Dev nD) : GSem nD τ sig := ((c : Thread nD τ), .reg barrier0)
abbrev sndCell (c : Dev nD) (t : Fin 124) : GSem nD τ sig := ((c : Thread nD τ), .dma (sendSem t))
abbrev rcvCell (c : Dev nD) (t : Fin 124) : GSem nD τ sig := ((c : Thread nD τ), .dma (recvSem t))

/-! ## The schedule -/

section Sched
variable (X : Dev nD → (cc0_stg0_0 : Ref sig .tc).ty.Contents (Elt F))

/-- The rows of `tgt d t` that transfer `t` from `d` lands in, with any contents, and that its receive semaphore is open. -/
def landAt (d : Dev nD) (t : Fin 124) : sProp 𝕄 :=
  iprop((∃ f, gPts (tgt d t) (grp t) fullShare f) ∗ reached ER (rcvCell (tgt d t) t) 0)

/-- What device `d`'s barrier is handed: by its right neighbour (`false`) the rows the clockwise transfers land in, by
    its left neighbour (`true`) those the counter-clockwise transfers land in. -/
def barPay (d : Dev nD) (b : Bool) : sProp 𝕄 := bigSep (Finset.univ.filter fun t => cw t = !b) fun t => landAt d t

/-- The duties of a semaphore's one round, what each hands over, and its amount. -/
def dutiesOf : Kind → Finset Bool
  | .bar => Finset.univ
  | .snd _ => {false}
  | .rcv _ => {false}
  | .idle => ∅
def payOf (d : Dev nD) (b : Bool) : Kind → sProp 𝕄
  | .bar => barPay d b
  | .snd t => srcPts X d t
  | .rcv t => gPts d (grp t) fullShare (gath X d)
  | .idle => iprop(emp)
def amtOf : Kind → ℕ
  | .bar => 1
  | _ => N
theorem amtOf_pos (k : Kind) : 0 < amtOf k := by cases k <;> first | exact Nat.one_pos | exact N_pos

/-- The schedule. -/
def sched : Rounds.Schedule (GSem nD τ sig) Bool 𝕄 where
  duties g r := if r = 0 ∧ g.1.2 = .tc then dutiesOf (kindOf g.2) else ∅
  unitless _ := False
  amount g _ _ := amtOf (kindOf g.2)
  payload g _ d := payOf X g.1.1 d (kindOf g.2)
  amount_pos g _ _ _ := amtOf_pos _

instance landAt_storable (d : Dev nD) (t) : BI.Storable (upEmb : UEmb _ 𝕄) (landAt (F := F) d t) := by unfold landAt; infer_instance
instance barPay_storable (d : Dev nD) (b) : BI.Storable (upEmb : UEmb _ 𝕄) (barPay (F := F) d b) := by unfold barPay; infer_instance
instance payOf_storable (d : Dev nD) (b k) : BI.Storable (upEmb : UEmb _ 𝕄) (payOf (F := F) X d b k) := by
  cases k <;> (unfold payOf; infer_instance)
instance sched_payload_storable (g : GSem nD τ sig) (r : ℕ) (d : Bool) :
    BI.Storable (upEmb : UEmb _ 𝕄) ((sched (F := F) X).payload g r d) := payOf_storable X _ _ _

variable (c : Dev nD) (t : Fin 124)

theorem duties_bar : (sched (F := F) X).duties (barCell c) 0 = Finset.univ := by
  dsimp only [sched]; rw [if_pos ⟨rfl, rfl⟩, kind_bar]; rfl
theorem duties_snd : (sched (F := F) X).duties (sndCell c t) 0 = {false} := by
  dsimp only [sched]; rw [if_pos ⟨rfl, rfl⟩, kind_snd]; rfl
theorem duties_rcv : (sched (F := F) X).duties (rcvCell c t) 0 = {false} := by
  dsimp only [sched]; rw [if_pos ⟨rfl, rfl⟩, kind_rcv]; rfl
theorem duties_later (g : GSem nD τ sig) : ∀ r, 1 ≤ r → (sched (F := F) X).duties g r = ∅ :=
  fun r hr => if_neg fun h => by omega

theorem amount_bar (d : Bool) : (sched (F := F) X).amount (barCell c) 0 d = 1 := by dsimp only [sched]; rw [kind_bar]; rfl
theorem amount_snd (d : Bool) : (sched (F := F) X).amount (sndCell c t) 0 d = N := by dsimp only [sched]; rw [kind_snd]; rfl
theorem amount_rcv (d : Bool) : (sched (F := F) X).amount (rcvCell c t) 0 d = N := by dsimp only [sched]; rw [kind_rcv]; rfl

theorem expect_bar : (sched (F := F) X).expect (barCell c) 0 = 2 := by
  unfold Schedule.expect Schedule.amountOf
  rw [duties_bar, Finset.sum_congr rfl fun d _ => amount_bar X c d, Finset.sum_const, Finset.card_univ, Fintype.card_bool, smul_eq_mul]
theorem expect_snd : (sched (F := F) X).expect (sndCell c t) 0 = N := by
  unfold Schedule.expect Schedule.amountOf; rw [duties_snd, Finset.sum_singleton, amount_snd]
theorem expect_rcv : (sched (F := F) X).expect (rcvCell c t) 0 = N := by
  unfold Schedule.expect Schedule.amountOf; rw [duties_rcv, Finset.sum_singleton, amount_rcv]

theorem payload_bar (b : Bool) : (sched (F := F) X).payload (barCell c) 0 b = barPay c b := by dsimp only [sched]; rw [kind_bar]; rfl
theorem payload_snd (b : Bool) : (sched (F := F) X).payload (sndCell c t) 0 b = srcPts X c t := by dsimp only [sched]; rw [kind_snd]; rfl
theorem payload_rcv (b : Bool) : (sched (F := F) X).payload (rcvCell c t) 0 b = gPts c (grp t) fullShare (gath X c) := by
  dsimp only [sched]; rw [kind_rcv]; rfl

theorem rest_snd : bigSep ((sched (F := F) X).duties (sndCell c t) 0 \ ∅) (fun d => (sched (F := F) X).payload (sndCell c t) 0 d) = srcPts X c t := by
  rw [Finset.sdiff_empty, duties_snd, bigSep_singleton, payload_snd]
theorem rest_rcv : bigSep ((sched (F := F) X).duties (rcvCell c t) 0 \ ∅) (fun d => (sched (F := F) X).payload (rcvCell c t) 0 d)
    = gPts c (grp t) fullShare (gath X c) := by
  rw [Finset.sdiff_empty, duties_rcv, bigSep_singleton, payload_rcv]
theorem rest_bar : bigSep ((sched (F := F) X).duties (barCell c) 0 \ ∅) (fun d => (sched (F := F) X).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl

end Sched

/-! ## What a device owes; the levels -/

/-- The transfers of a set `M` (a bit per transfer) still to be paid by device `c`. -/
def owesOf (M : Nat) (c : Dev nD) : CellTallies nD τ sig Unit :=
  ∑ t : Fin 124, if M.testBit t.val then tallyAt (rcvCell (tgt c t) t) () N else 0

def L (g : GSem nD τ sig) : Finset Unit := if g.1.2 = .tc then {()} else ∅
def lvOf : Kind → ℕ
  | .bar => 1
  | .rcv t => (hop t).val + 2
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl

end Cert.RingGemm

end
-- ==== Proof.State.lean ====
/-
# The state of the body, and its check

Which transfers are unsent, in flight, awaited and so on is a bit per transfer (`St`). `ok` says when an operation
may run at a state, `next` gives the state after it, and `ops_ok` checks the whole sequence by evaluation. The
rest of the module is the geometry of the rows of the gathered operand and of the output.
-/
module

public import proofs.«01_k».proof.Proof.Ring

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sets of transfers as bits -/

/-- Change bit `t`. -/
def flip (M t : Nat) : Nat := M ^^^ 2 ^ t

theorem flip_self (M t : Nat) : (flip M t).testBit t = !M.testBit t := by
  unfold flip; rw [Nat.testBit_xor, Nat.testBit_two_pow_self, Bool.xor_true]
theorem flip_ne (M : Nat) {t u : Nat} (h : u ≠ t) : (flip M t).testBit u = M.testBit u := by
  unfold flip; rw [Nat.testBit_xor, Nat.testBit_two_pow_of_ne (Ne.symm h), Bool.xor_false]

/-- A family whose member `t` is `Φ t` where the bit is set and `Ψ t` where it is not. -/
def mk {n : Nat} (M : Nat) (Φ Ψ : Fin n → sProp 𝕄) : sProp 𝕄 :=
  bigSep Finset.univ fun t : Fin n => cond (M.testBit t.val) (Φ t) (Ψ t)

/-- Take member `t` out where its bit is `b`; it goes back changed. -/
theorem mk_flip {n : Nat} (M : Nat) (Φ Ψ : Fin n → sProp 𝕄) (t : Fin n) (b : Bool) (hb : M.testBit t.val = b) :
    mk M Φ Ψ ⊢ iprop(cond b (Φ t) (Ψ t) ∗ (cond (!b) (Φ t) (Ψ t) -∗ mk (flip M t.val) Φ Ψ)) := by
  have h := bigSep_univ_update (Φ := fun u : Fin n => cond (M.testBit u.val) (Φ u) (Ψ u))
    (Ψ := fun u : Fin n => cond ((flip M t.val).testBit u.val) (Φ u) (Ψ u)) t (fun u hu => by
      rw [flip_ne M (fun h => hu (Fin.ext h))])
  rw [flip_self, hb] at h
  exact h

theorem mk_clear {n : Nat} (M : Nat) (Φ Ψ : Fin n → sProp 𝕄) (t : Fin n) (hb : M.testBit t.val = true) :
    mk M Φ Ψ ⊢ iprop(Φ t ∗ (Ψ t -∗ mk (flip M t.val) Φ Ψ)) := mk_flip M Φ Ψ t true hb
theorem mk_set {n : Nat} (M : Nat) (Φ Ψ : Fin n → sProp 𝕄) (t : Fin n) (hb : M.testBit t.val = false) :
    mk M Φ Ψ ⊢ iprop(Ψ t ∗ (Φ t -∗ mk (flip M t.val) Φ Ψ)) := mk_flip M Φ Ψ t false hb

/-- Every bit below `n`. -/
def allBits (n : Nat) : Nat := 2 ^ n - 1
theorem mk_all {n : Nat} (Φ Ψ : Fin n → sProp 𝕄) : mk (allBits n) Φ Ψ = bigSep Finset.univ Φ :=
  bigSep_congr fun t _ => by
    have h : (allBits n).testBit t.val = true := by unfold allBits; rw [Nat.testBit_two_pow_sub_one]; exact decide_eq_true t.isLt
    rw [h]; rfl
theorem mk_none {n : Nat} (Φ Ψ : Fin n → sProp 𝕄) : mk 0 Φ Ψ = bigSep Finset.univ Ψ :=
  bigSep_congr fun t _ => by rw [Nat.zero_testBit]; rfl

/-! ## The state -/

/-- The transfers unsent (`u`), sent but not seen leaving (`p`), not yet received (`w`), with their send semaphore in use
    (`e`); the landed groups whose lent share is here (`r`); the sub-blocks of the own block whose lent shares are
    here (`h`); the strips of the output written (`o`). -/
structure St where
  u : Nat
  p : Nat
  w : Nat
  e : Nat
  r : Nat
  h : Nat
  o : Nat
  deriving DecidableEq

/-- The share of the own block that first hop `t` is lent. -/
def firstIx (t : Fin 124) : Fin 8 := ⟨t.val % 4 + cond (cw t) 0 4, by cases cw t <;> simp only [cond] <;> omega⟩
/-- The transfer in which the rows that `t` forwards landed. -/
def pred (t : Fin 124) : Fin 124 := ⟨cond (cw t) (t.val - 4) ((t.val + 4) % 124), by
  have := t.isLt; cases cw t <;> simp only [cond] <;> omega⟩

/-- Is the source of `t` here? -/
def srcHere (t : Fin 124) (S : St) : Bool := cond (isFirst t) (S.h.testBit (firstIx t).val) (S.r.testBit (pred t).val)
/-- The state with the source of `t` changed. -/
def flipSrc (t : Fin 124) (S : St) : St :=
  { S with h := cond (isFirst t) (flip S.h (firstIx t).val) S.h, r := cond (isFirst t) S.r (flip S.r (pred t).val) }

/-- The first slot of the batch that slot `s` is in, for the batches of four. -/
def batchLo (s : Fin 32) : Fin 29 := if 20 ≤ s.val then ⟨20 + 4 * ((s.val - 20) / 4), by omega⟩ else ⟨(1 + 4 * ((s.val - 1) / 4)) % 29, Nat.mod_lt _ (by decide)⟩
/-- Slot `s` is in a batch of four. -/
def inFour (s : Fin 32) : Bool := Nat.blt 0 s.val && (Nat.blt s.val 17 || Nat.blt 19 s.val)

/-- Slot `lo + k`. -/
def slotAt (lo : Fin 29) (k : Fin 4) : Fin 32 := ⟨lo.val + k.val, by omega⟩
/-- Slot `17 + k`. -/
def slotAt3 (k : Fin 3) : Fin 32 := ⟨17 + k.val, by omega⟩

/-- Groups `4 lo, …, 4 lo + n - 1`, past slot 0, have landed. -/
def landed (lo n : Nat) (S : St) : Bool := decide (1 ≤ lo) && (List.range n).all fun i => !S.w.testBit (4 * lo + i - 4)

/-- When an operation may run. -/
def ok : Op → St → Bool
  | .send t, S => S.u.testBit t.val && !S.p.testBit t.val && srcHere t S
  | .recv t, S => S.w.testBit t.val && !S.r.testBit t.val &&
      (List.finRange 124).all fun u => !S.u.testBit u.val || Nat.blt (hop t).val (hop u).val
  | .done t, S => S.u == 0 && S.p.testBit t.val && S.e.testBit t.val && !srcHere t S
  | .own, S => true
  | .four lo, S => landed lo.val 16 S && (List.finRange 4).all fun k => inFour (slotAt lo k) && batchLo (slotAt lo k) == lo
  | .three, S => landed 17 12 S

/-- The state after an operation. -/
def next : Op → St → St
  | .send t, S => flipSrc t { S with u := flip S.u t.val, p := flip S.p t.val }
  | .recv t, S => { S with w := flip S.w t.val, r := flip S.r t.val }
  | .done t, S => flipSrc t { S with p := flip S.p t.val, e := flip S.e t.val }
  | .own, S => { S with o := S.o ||| 1 }
  | .four lo, S => { S with o := S.o ||| (15 <<< lo.val) }
  | .three, S => { S with o := S.o ||| (7 <<< 17) }

/-- Each operation of a list may run at the state the ones before it leave. -/
def okAll : List Op → St → Bool
  | [], _ => true
  | o :: os, S => ok o S && okAll os (next o S)
/-- The state after a list of operations. -/
def nextAll : List Op → St → St
  | [], S => S
  | o :: os, S => nextAll os (next o S)

/-- The state the body starts its operations at, and the one it ends at. -/
def S₀ : St := ⟨allBits 124, 0, allBits 124, allBits 124, 0, allBits 8, 0⟩
def S₁ : St := ⟨0, 0, 0, 0, allBits 124, allBits 8, allBits 32⟩

set_option maxRecDepth 100000 in
theorem ops_ok : okAll ops S₀ = true := by decide +kernel
set_option maxRecDepth 100000 in
theorem ops_end : nextAll ops S₀ = S₁ := by decide +kernel

/-! ## The gathered operand's rows -/

theorem mem_grp (q : Fin 128) (i : S4096x4096.Idx) : i ∈ (grpM q).view.set ↔ (i 0).val / 32 = q.val := by
  have h1 : (i 1).val < 4096 := (i 1).isLt
  have e : ((grpM q).view.set : Finset S4096x4096.Idx) = (grpR q).set := View.set_slice_whole cc0_scratch0 (grpR q)
  refine (Iff.of_eq (congrArg (fun A : Finset S4096x4096.Idx => i ∈ A) e)).trans (Rect.mem_set_unit.trans ⟨fun h => ?_, fun h a => ?_⟩)
  · have h0 : 32 * q.val ≤ (i 0).val ∧ (i 0).val < 32 * q.val + 32 := h 0
    omega
  · fin_cases a
    · show 32 * q.val ≤ (i 0).val ∧ (i 0).val < 32 * q.val + 32
      omega
    · show 0 ≤ (i 1).val ∧ (i 1).val < 0 + 4096
      omega

/-- The elements of the landed groups, where bit `t` of `M` says that `t` has not landed. -/
def recvd (M : Nat) : Finset S4096x4096.Idx :=
  Finset.univ.filter fun i => 4 ≤ (i 0).val / 32 ∧ M.testBit ((i 0).val / 32 - 4) = false

theorem mem_recvd (M : Nat) (i : S4096x4096.Idx) : i ∈ recvd M ↔ 4 ≤ (i 0).val / 32 ∧ M.testBit ((i 0).val / 32 - 4) = false := by
  unfold recvd; rw [Finset.mem_filter]; exact ⟨fun h => h.2, fun h => ⟨Finset.mem_univ _, h⟩⟩

theorem recvd_all : recvd (allBits 124) = ∅ := by
  refine Finset.eq_empty_of_forall_notMem fun i hi => ?_
  have h := (mem_recvd _ _).mp hi
  have h0 : (i 0).val < 4096 := (i 0).isLt
  have : (allBits 124).testBit ((i 0).val / 32 - 4) = true := by
    unfold allBits; rw [Nat.testBit_two_pow_sub_one]; exact decide_eq_true (by omega)
  rw [this] at h; exact absurd h.2 (by decide)

theorem recvd_disjoint (M : Nat) (t : Fin 124) (h : M.testBit t.val = true) : Disjoint (recvd M) (grpM (grp t)).view.set := by
  rw [Finset.disjoint_left]; intro i hi hg
  have h1 := (mem_recvd _ _).mp hi
  have h2 : (i 0).val / 32 = t.val + 4 := (mem_grp _ _).mp hg
  rw [h2, Nat.add_sub_cancel, h] at h1; exact absurd h1.2 (by decide)

theorem recvd_flip (M : Nat) (t : Fin 124) (h : M.testBit t.val = true) : recvd (flip M t.val) = recvd M ∪ (grpM (grp t)).view.set := by
  ext i
  rw [Finset.mem_union]
  refine ((mem_recvd _ i).trans ?_).trans (or_congr (mem_recvd _ i).symm (mem_grp (grp t) i).symm)
  have hg : (grp t).val = t.val + 4 := rfl
  rw [hg]
  by_cases e : (i 0).val / 32 = t.val + 4
  · rw [e, Nat.add_sub_cancel, flip_self, h]
    exact ⟨fun _ => .inr rfl, fun _ => ⟨by omega, rfl⟩⟩
  · constructor
    · rintro ⟨h4, hb⟩
      rw [flip_ne M (by omega)] at hb
      exact .inl ⟨h4, hb⟩
    · rintro (⟨h4, hb⟩ | h')
      · exact ⟨h4, by rw [flip_ne M (by omega)]; exact hb⟩
      · exact absurd h' e

/-- The rows of a batch are landed rows. -/
theorem batch_recvd (lo n : Nat) (S : St) (h : landed lo n S = true) (i : S4096x4096.Idx)
    (h1 : 128 * lo ≤ (i 0).val) (h2 : (i 0).val < 128 * lo + 32 * n) : i ∈ recvd S.w := by
  unfold landed at h
  rw [Bool.and_eq_true, decide_eq_true_eq, List.all_eq_true] at h
  obtain ⟨hlo, hall⟩ := h
  have hb := hall ((i 0).val / 32 - 4 * lo) (List.mem_range.mpr (by omega))
  rw [Bool.not_eq_true', show 4 * lo + ((i 0).val / 32 - 4 * lo) - 4 = (i 0).val / 32 - 4 by omega] at hb
  exact (mem_recvd _ _).mpr ⟨by omega, hb⟩

/-! ## The output's strips -/

section Strips
variable (X : Dev nD → (cc0_stg0_0 : Ref sig .tc).ty.Contents (Elt F)) (W : Dev nD → (cc0_stg1_0 : Ref sig .tc).ty.Contents (Elt F))

/-- The rows of a batch of four, of the last batch, and the own rows, as they are loaded. -/
def rows4 (c : Dev nD) (lo : Fin 29) : Vec F S512x4096 .bf16 := gM.view.readAt (Elt F)
  (Rect.unit (s := S4096x4096) ![128 * lo.val, 0] S512x4096.size (inb_batch lo)).toLoadRect (gath X c)
def rows3 (c : Dev nD) : Vec F S384x4096 .bf16 := gM.view.readAt (Elt F)
  (Rect.unit (s := S4096x4096) ![2176, 0] S384x4096.size inb_S4096x4096_S384x4096_2176_0).toLoadRect (gath X c)
def rows1 (c : Dev nD) : Vec F S128x4096 .bf16 := xM.view.readAt (Elt F)
  (Rect.unit (s := S128x4096) ![0, 0] S128x4096.size inb_S128x4096_S128x4096_0_0).toLoadRect (X c)
/-- The right operand's block, as it is loaded. -/
def cols (c : Dev nD) : Vec F S4096x256 .bf16 := wM.view.readAt (Elt F)
  (Rect.unit (s := S4096x256) ![0, 0] S4096x256.size inb_S4096x256_S4096x256_0_0).toLoadRect (W c)

/-- Strip `k` of a batch of four, and of the last batch. -/
def strip4 (c : Dev nD) (lo : Fin 29) (k : Fin 4) : FVec F S128x256 .f32 :=
  extractStridedSlice S128x256 ![128 * k.val, 0] (k0_pay3 (rows4 X c lo) (cols W c)) (slices_strip k)
def strip3 (c : Dev nD) (k : Fin 3) : FVec F S128x256 .f32 :=
  extractStridedSlice S128x256 ![128 * k.val, 0] (k0_pay38 (rows3 X c) (cols W c)) (slices_strip3 k)

/-- The strip of 128 rows that device `c` writes for slot `s`. -/
def strip (c : Dev nD) (s : Fin 32) : FVec F S128x256 .f32 :=
  if s.val = 0 then k0_pay2 (k0_pay1 (rows1 X c)) (cols W c)
  else cond (inFour s) (strip4 X W c (batchLo s) (Fin.ofNat 4 (s.val - (batchLo s).val))) (strip3 X W c (Fin.ofNat 3 (s.val - 17)))

theorem strip_own (c : Dev nD) : strip X W c 0 = k0_pay2 (k0_pay1 (rows1 X c)) (cols W c) := if_pos rfl
theorem strip_four (c : Dev nD) (lo : Fin 29) (k : Fin 4) (h1 : inFour (slotAt lo k) = true) (h2 : batchLo (slotAt lo k) = lo) :
    strip X W c (slotAt lo k) = strip4 X W c lo k := by
  have hk : Fin.ofNat 4 ((slotAt lo k).val - lo.val) = k := by
    apply Fin.ext; show (lo.val + k.val - lo.val) % 4 = k.val; omega
  have h0 : ¬ (slotAt lo k).val = 0 := fun h => by
    unfold inFour at h1; rw [h] at h1; exact absurd h1 (by decide)
  unfold strip
  rw [if_neg h0, h1, h2, hk]
  rfl
theorem strip_three (c : Dev nD) (k : Fin 3) : strip X W c (slotAt3 k) = strip3 X W c k := by
  have hk : Fin.ofNat 3 ((slotAt3 k).val - 17) = k := by
    apply Fin.ext; show (17 + k.val - 17) % 3 = k.val; omega
  have h0 : ¬ (slotAt3 k).val = 0 := fun h => by
    have : 17 + k.val = 0 := h
    omega
  have h1 : inFour (slotAt3 k) = false := by revert k; decide
  unfold strip
  rw [if_neg h0, h1, hk]
  rfl

/-- Row `r`, column `j` of the strip of device `d`'s rows in the output. -/
def outIx (d : Dev nD) (k : S128x256.Idx) : S4096x256.Idx := fun a => match a with
  | ⟨0, _⟩ => ⟨128 * d.val + (k 0).val, by
      have h : (k 0).val < 128 := (k 0).isLt
      have h' : d.val < 32 := d.isLt
      show _ < 4096
      omega⟩
  | ⟨1, _⟩ => ⟨(k 1).val, (k 1).isLt⟩

/-- The strips of `M` stand in `f`, at device `c`. -/
def Written (c : Dev nD) (M : Nat) (f : (cc0_stg3_0 : Ref sig .tc).ty.Contents (Elt F)) : Prop :=
  ∀ s : Fin 32, M.testBit s.val = true → ∀ k, f (outIx (org c s) k) = strip X W c s k

/-- The device, and the place in its strip, of an output element. -/
def outDev (i : S4096x256.Idx) : Dev nD := (⟨(i 0).val / 128, by have h : (i 0).val < 4096 := (i 0).isLt; omega⟩ : Fin 32)
def outIn (i : S4096x256.Idx) : S128x256.Idx := fun a => match a with
  | ⟨0, _⟩ => ⟨(i 0).val % 128, by show _ < 128; omega⟩
  | ⟨1, _⟩ => ⟨(i 1).val, (i 1).isLt⟩
theorem outIx_of (i : S4096x256.Idx) : outIx (outDev i) (outIn i) = i := by
  funext a; apply Fin.ext; fin_cases a
  · show 128 * ((i 0).val / 128) + (i 0).val % 128 = (i 0).val; omega
  · rfl

/-- What device `c`'s output block holds at the end. -/
def outAt (c : Dev nD) : (cc0_stg3_0 : Ref sig .tc).ty.Contents (Elt F) := fun i => strip X W c (slotOf c (outDev i)) (outIn i)

theorem written_all (c : Dev nD) (f : (cc0_stg3_0 : Ref sig .tc).ty.Contents (Elt F)) (h : Written X W c (allBits 32) f) : f = outAt X W c := by
  funext i
  have h1 := h (slotOf c (outDev i)) (by unfold allBits; rw [Nat.testBit_two_pow_sub_one]; exact decide_eq_true (slotOf c (outDev i)).isLt) (outIn i)
  rw [org_slotOf, outIx_of] at h1
  exact h1

/-- Storing the strip of slot `s` where the output holds the rows of `org c s`. -/
theorem written_put (c : Dev nD) (M : Nat) (s : Fin 32) (f f' : (cc0_stg3_0 : Ref sig .tc).ty.Contents (Elt F)) (h : Written X W c M f)
    (hin : ∀ k, f' (outIx (org c s) k) = strip X W c s k)
    (hout : ∀ d, d ≠ org c s → ∀ k, f' (outIx d k) = f (outIx d k)) : Written X W c (M ||| 2 ^ s.val) f' := fun s' hs' k => by
  by_cases e : s' = s
  · subst e; exact hin k
  · rw [hout _ (fun h' => e (org_injective c h'))]
    refine h s' ?_ k
    rw [Nat.testBit_or, Nat.testBit_two_pow_of_ne (fun h' => e (Fin.ext h'.symm)), Bool.or_false] at hs'
    exact hs'

end Strips

end Cert.RingGemm

end
-- ==== Proof.Inv.lean ====
/-
# The invariant of the body

`inv` is what a device holds between two operations of the body, at a state of `State.lean`; `env` is what it holds
throughout, of every device: that each semaphore's cell is one of the schedule's.
-/
module

public import proofs.«01_k».proof.Proof.State

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No operation of the body runs a variant. -/
abbrev 𝒱₀ : Variants := Variants.none

/-! ## The cells -/

/-- The semaphores the body uses: the barrier's, and the four arrays'. -/
def own : Option (Fin 256) → SemLoc sig
  | none => .reg barrier0
  | some i => .dma (⟨i.val + 4, by omega⟩ : Fin 260)
abbrev kcell (p : Dev nD × Option (Fin 256)) : GSem nD τ sig := ((p.1 : Thread nD τ), own p.2)

theorem four_le_snd (t : Fin 124) : 4 ≤ (sendSem t).val := by revert t; decide +kernel
theorem four_le_rcv (t : Fin 124) : 4 ≤ (recvSem t).val := by revert t; decide +kernel
/-- The index of transfer `t`'s two semaphores among the body's. -/
def sndIx (t : Fin 124) : Fin 256 := ⟨(sendSem t).val - 4, by have h : (sendSem t).val < 260 := (sendSem t).isLt; have := four_le_snd t; omega⟩
def rcvIx (t : Fin 124) : Fin 256 := ⟨(recvSem t).val - 4, by have h : (recvSem t).val < 260 := (recvSem t).isLt; have := four_le_rcv t; omega⟩
theorem own_snd (t : Fin 124) : own (some (sndIx t)) = .dma (sendSem t) := by
  refine congrArg SemLoc.dma (Fin.ext ?_)
  have := four_le_snd t
  show (sendSem t).val - 4 + 4 = (sendSem t).val; omega
theorem own_rcv (t : Fin 124) : own (some (rcvIx t)) = .dma (recvSem t) := by
  refine congrArg SemLoc.dma (Fin.ext ?_)
  have := four_le_rcv t
  show (recvSem t).val - 4 + 4 = (recvSem t).val; omega

section Inv
variable (X : Dev nD → (cc0_stg0_0 : Ref sig .tc).ty.Contents (Elt F)) (W : Dev nD → (cc0_stg1_0 : Ref sig .tc).ty.Contents (Elt F))
variable (K : Dev nD × Option (Fin 256) → ℕ)

/-- Every cell of every device is the schedule's; every barrier, and every semaphore of device `c`'s own, is open. -/
def env (c : Dev nD) : sProp 𝕄 :=
  iprop((bigSep Finset.univ fun p => cellInv ER (sched X) (K p) (kcell p)) ∗ (bigSep Finset.univ fun d => reached ER (barCell d) 0)
    ∗ bigSep Finset.univ fun i : Fin 256 => reached ER (kcell (c, some i)) 0)
instance env_persistent (c : Dev nD) : BI.Persistent (env (F := F) X K c) := by unfold env; infer_instance

theorem env_at (c : Dev nD) (p : Dev nD × Option (Fin 256)) : env X K c ⊢ cellInv ER (sched X) (K p) (kcell p) := by
  have h : (bigSep Finset.univ fun p => (cellInv ER (sched X) (K p) (kcell p) : sProp 𝕄)) ⊢ cellInv ER (sched X) (K p) (kcell p) :=
    bigSep_elim (Finset.mem_univ p)
  unfold env
  iintro ⟨H, -⟩
  iapply h; iexact H
theorem env_own (c : Dev nD) (i : Fin 256) :
    env X K c ⊢ iprop(cellInv ER (sched X) (K (c, some i)) (kcell (c, some i)) ∗ reached ER (kcell (c, some i)) 0) := by
  have h : (bigSep Finset.univ fun i : Fin 256 => (reached ER (kcell (c, some i)) 0 : sProp 𝕄)) ⊢ reached ER (kcell (c, some i)) 0 :=
    bigSep_elim (Finset.mem_univ i)
  iintro #He
  isplitr; · iapply (env_at X K c (c, some i)); iexact He
  unfold env
  icases He with ⟨-, -, #H⟩
  iapply h; iexact H
theorem env_bar (c d : Dev nD) : env X K c ⊢ iprop(cellInv ER (sched X) (K (d, none)) (barCell d) ∗ reached ER (barCell d) 0) := by
  have h : (bigSep Finset.univ fun d : Dev nD => (reached ER (barCell d) 0 : sProp 𝕄)) ⊢ reached ER (barCell d) 0 :=
    bigSep_elim (Finset.mem_univ d)
  iintro #He
  isplitr; · iapply (env_at X K c (d, none)); iexact He
  unfold env
  icases He with ⟨-, #H, -⟩
  iapply h; iexact H
theorem env_snd (c : Dev nD) (t : Fin 124) :
    env X K c ⊢ iprop(cellInv ER (sched X) (K (c, some (sndIx t))) (sndCell c t) ∗ reached ER (sndCell c t) 0) := by
  have h := env_own X K c (sndIx t); unfold kcell at h; rw [own_snd] at h; exact h
theorem env_rcv (c : Dev nD) (t : Fin 124) :
    env X K c ⊢ iprop(cellInv ER (sched X) (K (c, some (rcvIx t))) (rcvCell c t) ∗ reached ER (rcvCell c t) 0) := by
  have h := env_own X K c (rcvIx t); unfold kcell at h; rw [own_rcv] at h; exact h
theorem env_peer (c d : Dev nD) (t : Fin 124) :
    env X K c ⊢ cellInv ER (sched X) (K (d, some (rcvIx t))) (rcvCell d t) := by
  have h := env_at X K c (d, some (rcvIx t)); unfold kcell at h; rw [own_rcv] at h; exact h

/-! ## The table -/

/-- The device that entry `i` of device `c`'s table names: its neighbours, then the devices of its slots. -/
def tabDev (c : Dev nD) (i : Fin 33) : Dev nD := if i.val = 0 then left c else if i.val = 1 then right c else org c (Fin.ofNat 32 (i.val - 1))
/-- Device `c`'s table. -/
def tab (c : Dev nD) : (cc0_stg2_0 : Ref sig .tc).ty.Contents (Elt F) := fun i => (BitVec.ofNat 32 (tabDev c (i 0)).val : BitVec 32)

theorem tabDev_slot (c : Dev nD) (s : Fin 32) (h : s.val ≠ 0) : tabDev c ⟨s.val + 1, by omega⟩ = org c s := by
  unfold tabDev
  rw [if_neg (by simp), if_neg (by simpa using h)]
  congr 1
  apply Fin.ext; show (s.val + 1 - 1) % 32 = s.val; omega

/-! ## The invariant -/

/-- The rights to send transfer `t`: the duties of its two semaphores and the rows it lands in. -/
def unsent (c : Dev nD) (t : Fin 124) : sProp 𝕄 :=
  iprop(dutyTok ER (sndCell c t) 0 false ∗ dutyTok ER (rcvCell (tgt c t) t) 0 false ∗ landAt c t)
/-- The right to wait for transfer `t` to arrive. -/
def awaited (c : Dev nD) (t : Fin 124) : sProp 𝕄 := iprop(atPos ER (rcvCell c t) 0 ∅ 0 ∗ cred (tallyAt (rcvCell c t) () N))
/-- The lent share of the group transfer `t` landed in. -/
def lentGrp (c : Dev nD) (t : Fin 124) : sProp 𝕄 := gPts c (grp t) fullShare.right (gath X c)
/-- The lent shares of the own block's sub-blocks: four for the clockwise first hops, four for the others. -/
def lentOwn (c : Dev nD) (i : Fin 8) : sProp 𝕄 :=
  xPts c (Fin.ofNat 4 i.val) (cond (Nat.blt i.val 4) fullShare.right.left fullShare.right.right) (X c)

/-- What device `c` holds between two operations, at state `S`. -/
def inv (c : Dev nD) (S : St) : sProp 𝕄 :=
  iprop((∃ Wt, owes (c : Thread nD τ) (owesOf S.u c) Wt)
    ∗ mk S.u (unsent c) (fun _ => iprop(emp))
    ∗ mk S.p (fun t => cred (tallyAt (sndCell c t) () N)) (fun _ => iprop(emp))
    ∗ mk S.w (awaited c) (fun t => semVal (rcvCell c t) 0)
    ∗ mk S.e (fun t => atPos ER (sndCell c t) 0 ∅ 0) (fun t => semVal (sndCell c t) 0)
    ∗ mk S.r (lentGrp X c) (fun _ => iprop(emp))
    ∗ mk S.h (lentOwn X c) (fun _ => iprop(emp))
    ∗ (((c : Thread nD τ).loc cc0_scratch0) ↦[recvd S.w]{fullShare.left} gath X c)
    ∗ (∃ f, ⌜Written X W c S.o f⌝ ∗ (((c : Thread nD τ).loc cc0_stg3_0) ↦{fullShare} f))
    ∗ (((c : Thread nD τ).loc cc0_stg0_0) ↦{fullShare.left} X c)
    ∗ (((c : Thread nD τ).loc cc0_stg1_0) ↦{fullShare} W c)
    ∗ (((c : Thread nD τ).loc cc0_stg2_0) ↦{fullShare} tab c))

/-! ## The source of a transfer -/

theorem firstIx_eq (t : Fin 124) : isFirst t = true → Fin.ofNat 4 (firstIx t).val = sub t ∧ Nat.blt (firstIx t).val 4 = cw t := by
  revert t; decide +kernel
theorem grp_pred (t : Fin 124) : isFirst t = false → grp (pred t) = grpSrc t := by revert t; decide +kernel

theorem srcPts_eq (c : Dev nD) (t : Fin 124) :
    srcPts X c t = cond (isFirst t) (lentOwn X c (firstIx t)) (lentGrp X c (pred t)) := by
  unfold srcPts
  cases h : isFirst t
  · unfold lentGrp; rw [cond_false, cond_false, grp_pred t h]
  · unfold lentOwn lent; rw [cond_true, cond_true, (firstIx_eq t h).1, (firstIx_eq t h).2]

/-- The source of `t` taken from what is here, or given back. -/
theorem src_take (c : Dev nD) (t : Fin 124) (S : St) (h : srcHere t S = true) :
    iprop(mk S.r (lentGrp X c) (fun _ => iprop(emp)) ∗ mk S.h (lentOwn X c) (fun _ => iprop(emp)))
      ⊢ iprop(srcPts X c t ∗ mk (flipSrc t S).r (lentGrp X c) (fun _ => iprop(emp)) ∗ mk (flipSrc t S).h (lentOwn X c) (fun _ => iprop(emp))) := by
  rw [srcPts_eq]
  unfold srcHere at h; unfold flipSrc
  cases hf : isFirst t <;> rw [hf] at h <;> dsimp only [cond] at h ⊢ <;> iintro ⟨Hr, Hh⟩
  · ihave H := (mk_clear S.r (lentGrp X c) (fun _ => iprop(emp)) (pred t) h) $$ Hr
    icases H with ⟨Hs, Hk⟩
    isplitl [Hs]; · iexact Hs
    isplitl [Hk]
    · iapply Hk; iempintro
    iexact Hh
  · ihave H := (mk_clear S.h (lentOwn X c) (fun _ => iprop(emp)) (firstIx t) h) $$ Hh
    icases H with ⟨Hs, Hk⟩
    isplitl [Hs]; · iexact Hs
    isplitl [Hr]; · iexact Hr
    iapply Hk; iempintro
theorem src_give (c : Dev nD) (t : Fin 124) (S : St) (h : srcHere t S = false) :
    iprop(srcPts X c t ∗ mk S.r (lentGrp X c) (fun _ => iprop(emp)) ∗ mk S.h (lentOwn X c) (fun _ => iprop(emp)))
      ⊢ iprop(mk (flipSrc t S).r (lentGrp X c) (fun _ => iprop(emp)) ∗ mk (flipSrc t S).h (lentOwn X c) (fun _ => iprop(emp))) := by
  rw [srcPts_eq]
  unfold srcHere at h; unfold flipSrc
  cases hf : isFirst t <;> rw [hf] at h <;> dsimp only [cond] at h ⊢ <;> iintro ⟨Hs, Hr, Hh⟩
  · ihave H := (mk_set S.r (lentGrp X c) (fun _ => iprop(emp)) (pred t) h) $$ Hr
    icases H with ⟨-, Hk⟩
    isplitl [Hs Hk]
    · iapply Hk; iexact Hs
    iexact Hh
  · ihave H := (mk_set S.h (lentOwn X c) (fun _ => iprop(emp)) (firstIx t) h) $$ Hh
    icases H with ⟨-, Hk⟩
    isplitl [Hr]; · iexact Hr
    iapply Hk; iexact Hs

/-! ## What lands -/

theorem gath_own (c : Dev nD) (t : Fin 124) (h : isFirst t = true) :
    (ownM (sub t)).view.read (Elt F) (X c) = (grpM (grp t)).view.read (Elt F) (gath X (tgt c t)) := by
  have hg : org (tgt c t) ⟨t.val / 4 + 1, by omega⟩ = c ∧ (sub t).val = t.val % 4 := by
    refine ⟨?_, rfl⟩
    revert c; revert t; decide +kernel
  funext k
  have hk : (k 0).val < 32 := (k 0).isLt
  show X c ((ownM (sub t)).view.emb k) = X (org (tgt c t) (slotRow ((grpM (grp t)).view.emb k))) _
  rw [slot_grp, hg.1]
  refine congrArg (X c) (funext fun a => Fin.ext ?_)
  fin_cases a
  · show 32 * (t.val % 4) + 1 * (k 0).val = (32 * (t.val + 4) + 1 * (k 0).val) % 128
    omega
  · rfl

theorem gath_grp (c : Dev nD) (t : Fin 124) (h : isFirst t = false) :
    (grpM (grpSrc t)).view.read (Elt F) (gath X c) = (grpM (grp t)).view.read (Elt F) (gath X (tgt c t)) := by
  have hs : (grpSrc t).val % 4 = t.val % 4 := by revert h; revert t; decide +kernel
  have hg : org c ⟨(grpSrc t).val / 4, by omega⟩ = org (tgt c t) ⟨t.val / 4 + 1, by omega⟩ := by
    revert c; revert h; revert t; decide +kernel
  funext k
  have hk : (k 0).val < 32 := (k 0).isLt
  show X (org c (slotRow ((grpM (grpSrc t)).view.emb k))) _ = X (org (tgt c t) (slotRow ((grpM (grp t)).view.emb k))) _
  have e : slotRow ((grpM (grpSrc t)).view.emb k) = ⟨(grpSrc t).val / 4, by omega⟩ := by
    apply Fin.ext
    show (32 * (grpSrc t).val + 1 * (k 0).val) / 128 = (grpSrc t).val / 4
    omega
  rw [slot_grp, e, hg]
  refine congrArg (X _) (funext fun a => Fin.ext ?_)
  fin_cases a
  · show (32 * (grpSrc t).val + 1 * (k 0).val) % 128 = (32 * (t.val + 4) + 1 * (k 0).val) % 128
    omega
  · rfl

/-- What lands of `t` at its target is what its target's group is to hold. -/
theorem land_eq (d : Dev nD) (q : Fin 128) (f : (cc0_scratch0 : Ref sig .tc).ty.Contents (Elt F)) (w : S32x4096.Idx → Elt F .bf16)
    (h : w = (grpM q).view.read (Elt F) (gath X d)) :
    gPts (F := F) d q fullShare ((grpM q).view.write (Elt F) f w Finset.univ) = gPts d q fullShare (gath X d) := by
  unfold gPts
  refine pointsTo_congr fun i hi => ?_
  obtain ⟨k, -, rfl⟩ := Finset.mem_map.mp hi
  exact ((grpM q).view.write_emb_of_mem f w (Finset.mem_univ k)).trans (by rw [h]; rfl)

/-! ## What is owed -/

theorem owesOf_flip (M : Nat) (c : Dev nD) (t : Fin 124) (h : M.testBit t.val = true) :
    owesOf M c = owesOf (flip M t.val) c + tallyAt (rcvCell (tgt c t) t) () N := by
  unfold owesOf
  rw [← Finset.sum_erase_add _ _ (Finset.mem_univ t), ← Finset.sum_erase_add Finset.univ (fun u : Fin 124 => if (flip M t.val).testBit u.val then _ else _) (Finset.mem_univ t)]
  rw [h, flip_self, h]
  simp only [if_true, Bool.not_true, Bool.false_eq_true, if_false, add_zero]
  refine congrArg (· + _) (Finset.sum_congr rfl fun u hu => ?_)
  rw [flip_ne M (fun h' => Finset.ne_of_mem_erase hu (Fin.ext h'))]

theorem owesOf_none (c : Dev nD) : owesOf 0 c = 0 := by
  unfold owesOf
  refine Finset.sum_eq_zero fun t _ => ?_
  rw [Nat.zero_testBit]; exact if_neg (by decide)

theorem owesOf_pos {M : Nat} {c : Dev nD} {g : GSem nD τ sig} {i : Unit} (h : 0 < owesOf M c g i) :
    ∃ t : Fin 124, M.testBit t.val = true ∧ g = rcvCell (tgt c t) t := by
  by_contra hn
  refine Nat.lt_irrefl 0 (lt_of_lt_of_eq h ?_)
  unfold owesOf
  rw [Finset.sum_apply, Finsupp.finset_sum_apply]
  refine Finset.sum_eq_zero fun t _ => ?_
  by_cases hb : M.testBit t.val = true
  · rw [if_pos hb, tallyAt_apply, if_neg fun h' => hn ⟨t, hb, h'.1⟩]
  · rw [if_neg hb]; rfl

/-- A device may wait on a semaphore below all it owes. -/
theorem mayWait_of (c : Dev nD) (sm : SemLoc sig) (M : Nat)
    (h : ∀ t : Fin 124, M.testBit t.val = true → lvOf (kindOf sm) < (hop t).val + 2) :
    (levAts L lv : sProp 𝕄) ⊢ MayWait (c : Thread nD τ) sm () (owesOf M c) :=
  MayOwe.of_cut (L := L) (lev := lv) (lvOf (kindOf sm)) (fun p hp => by rw [Finset.mem_singleton.mp hp, L_tc]; exact Finset.mem_singleton_self _)
    (fun g u hg => by obtain ⟨t, -, rfl⟩ := owesOf_pos hg; rw [L_tc]; exact Finset.mem_singleton_self _)
    (fun p hp => by rw [Finset.mem_singleton.mp hp]; exact le_refl _)
    (fun g u hg => by
      obtain ⟨t, hb, rfl⟩ := owesOf_pos hg
      unfold lv; dsimp only; rw [kind_rcv]; exact h t hb)

end Inv

end Cert.RingGemm

end
-- ==== Proof.Steps.lean ====
/-
# The operations, one rule each

Each operation of the body runs from `inv` at a state to `inv` at the next one (`op_send`, `op_recv`, `op_done`, and
the products); `run_ops` is the whole list by induction.
-/
module

public import proofs.«01_k».proof.Proof.Inv

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps
variable (X : Dev nD → (cc0_stg0_0 : Ref sig .tc).ty.Contents (Elt F)) (W : Dev nD → (cc0_stg1_0 : Ref sig .tc).ty.Contents (Elt F))
variable (K : Dev nD × Option (Fin 256) → ℕ) (c : Dev nD)

/-- What a device's program is to reach from here. -/
abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Transfers -/

/-- Starting transfer `t` from a source `src` that holds its rows. -/
theorem send_from (t : Fin 124) (M : Nat) (h : M.testBit t.val = true) (src : Memref sig .tc .vmem S32x4096 .bf16) (sh : PosShare TreeShare)
    (fs : Buf (Elt F) (src.view.loc (c : Thread nD τ)))
    (hpay : srcPts X c t = (src.view.loc (c : Thread nD τ) ↦[src.view.set]{sh} fs))
    (hread : src.view.read (Elt F) fs = (grpM (grp t)).view.read (Elt F) (gath X (tgt c t)))
    {hsc : (grpM (grp t)).view.ref.isScScratch = false} {hsrc : src.view.WordExact} {hdst : (grpM (grp t)).view.WordExact}
    {hsem : DmaTarget.Typed .vmem (.dma (recvSem t)) (.remote (Dev.tc (tgt c t) : Thread nD τ) (grpM (grp t)) (.dma (sendSem t)) hsc)}
    {α : Type} {Q : α → sProp 𝕄} {k : PUnit → Prog (TpuEff nD τ sig (Elt F) Λ₀ .tc) α}
    (fd : (cc0_scratch0 : Ref sig .tc).ty.Contents (Elt F)) (Wt : Waits sig Unit) :
    iprop(cellInv ER (sched X) (K (c, some (sndIx t))) (sndCell c t) ∗ cellInv ER (sched X) (K (tgt c t, some (rcvIx t))) (rcvCell (tgt c t) t)
        ∗ srcPts X c t ∗ gPts (tgt c t) (grp t) fullShare fd ∗ owes (c : Thread nD τ) (owesOf M c) Wt
        ∗ dutyTok ER (sndCell c t) 0 false ∗ reached ER (sndCell c t) 0
        ∗ dutyTok ER (rcvCell (tgt c t) t) 0 false ∗ reached ER (rcvCell (tgt c t) t) 0)
      ⊢ iprop(((cred (tallyAt (sndCell c t) () N) ∗ owes (c : Thread nD τ) (owesOf (flip M t.val) c) Wt) -∗ run c (k ⟨⟩) Q)
          -∗ run c (.op (.enqueueDma src (.remote (Dev.tc (tgt c t) : Thread nD τ) (grpM (grp t)) (.dma (sendSem t)) hsc) (.dma (recvSem t)) hsrc hdst hsem) k) Q) := by
  have hland := land_eq X (tgt c t) (grp t) fd _ hread
  have hd₁ : false ∈ (sched (F := F) X).duties (sndCell c t) 0 := by rw [duties_snd]; exact Finset.mem_singleton_self _
  have hd₂ : false ∈ (sched (F := F) X).duties (rcvCell (tgt c t) t) 0 := by rw [duties_rcv]; exact Finset.mem_singleton_self _
  have hN : (grpM (grp t)).view.amount (.dma (recvSem t)) = N := credit_grp (grp t)
  have hp₁ : (src.view.loc (c : Thread nD τ) ↦[src.view.set]{sh} fs : sProp 𝕄) ⊢ (sched (F := F) X).payload (sndCell c t) 0 false := by
    rw [payload_snd, hpay]
  have hp₂ : gPts (tgt c t) (grp t) fullShare ((grpM (grp t)).view.write (Elt F) fd (src.view.read (Elt F) fs) Finset.univ)
      ⊢ (sched (F := F) X).payload (rcvCell (tgt c t) t) 0 false := by
    rw [payload_rcv]; exact Entails.of_eq hland
  unfold gPts at hp₂
  rw [hpay]
  unfold gPts
  exact Rounds.wp_send_pointsTo (Q := Q) (k := k) 𝒱₀ ER (sched X) (c : Thread nD τ) none (κ₁ := K (c, some (sndIx t))) (κ₂ := K (tgt c t, some (rcvIx t))) (c' := Dev.tc (tgt c t)) (src := src) (dst := grpM (grp t)) (sS := .dma (sendSem t)) (sem := .dma (recvSem t)) (fs := fs) (q := sh)
    (hsc := hsc) (hsrc := hsrc) (hdst := hdst) (hsem := hsem) (r₁ := 0) (r₂ := 0) (d₁ := false) (d₂ := false) (fd := fd) hd₁ hd₂
    () () N hN (amount_snd X c t false) (amount_rcv X (tgt c t) t false) (owesOf (flip M t.val) c) (owesOf_flip M c t h) (W := Wt) hp₁ hp₂ (defs := defs₀ (F := F)) (Es := Set.univ)

/-- Starting transfer `t`, whichever its source. -/
theorem send_step (t : Fin 124) (M : Nat) (h : M.testBit t.val = true)
    {hsc : (grpM (grp t)).view.ref.isScScratch = false} {hsrc : (srcM t).view.WordExact} {hdst : (grpM (grp t)).view.WordExact}
    {hsem : DmaTarget.Typed .vmem (.dma (recvSem t)) (.remote (Dev.tc (tgt c t) : Thread nD τ) (grpM (grp t)) (.dma (sendSem t)) hsc)}
    {α : Type} {Q : α → sProp 𝕄} {k : PUnit → Prog (TpuEff nD τ sig (Elt F) Λ₀ .tc) α}
    (fd : (cc0_scratch0 : Ref sig .tc).ty.Contents (Elt F)) (Wt : Waits sig Unit) :
    iprop(cellInv ER (sched X) (K (c, some (sndIx t))) (sndCell c t) ∗ cellInv ER (sched X) (K (tgt c t, some (rcvIx t))) (rcvCell (tgt c t) t)
        ∗ srcPts X c t ∗ gPts (tgt c t) (grp t) fullShare fd ∗ owes (c : Thread nD τ) (owesOf M c) Wt
        ∗ dutyTok ER (sndCell c t) 0 false ∗ reached ER (sndCell c t) 0
        ∗ dutyTok ER (rcvCell (tgt c t) t) 0 false ∗ reached ER (rcvCell (tgt c t) t) 0)
      ⊢ iprop(((cred (tallyAt (sndCell c t) () N) ∗ owes (c : Thread nD τ) (owesOf (flip M t.val) c) Wt) -∗ run c (k ⟨⟩) Q)
          -∗ run c (.op (.enqueueDma (srcM t) (.remote (Dev.tc (tgt c t) : Thread nD τ) (grpM (grp t)) (.dma (sendSem t)) hsc) (.dma (recvSem t)) hsrc hdst hsem) k) Q) := by
  revert hsrc
  unfold srcM
  cases hf : isFirst t
  · intro hsrc
    exact send_from X K c t M h (grpM (grpSrc t)) fullShare.right (gath X c) (by unfold srcPts gPts; rw [hf]; rfl) (gath_grp X c t hf) fd Wt
  · intro hsrc
    exact send_from X K c t M h (ownM (sub t)) (lent t) (X c) (by unfold srcPts xPts; rw [hf]; rfl) (gath_own X c t hf) fd Wt

/-- Starting transfer `t`. -/
theorem op_send (t : Fin 124) (S : St) (hok : ok (.send t) S = true) {α : Type} {Q : α → sProp 𝕄}
    (k : PUnit → Prog (TpuEff nD τ sig (Elt F) Λ₀ .tc) α) :
    iprop(env X K c ∗ inv X W c S ∗ (inv X W c (next (.send t) S) -∗ run c (k ⟨⟩) Q)) ⊢ run c ((sendProg (tgt c t) t).bind k) Q := by
  simp only [ok, Bool.and_eq_true, Bool.not_eq_true'] at hok
  obtain ⟨⟨hu, hp⟩, hs⟩ := hok
  unfold inv
  iintro ⟨#He, ⟨⟨%Wt, HO⟩, HU, HP, HW, HE, HR, HH, Hrest⟩, Hk⟩
  ihave #Hcs := (env_snd X K c t) $$ He
  ihave #Hcr := (env_peer X K c (tgt c t) t) $$ He
  icases Hcs with ⟨#Hcs, #Hrs⟩
  ihave HU := (mk_clear S.u (unsent c) (fun _ => iprop(emp)) t hu) $$ HU
  icases HU with ⟨Hun, HU⟩
  unfold unsent landAt
  icases Hun with ⟨Hts, Htr, ⟨%fd, Hfd⟩, #Hrr⟩
  ihave HS := (src_take X c t S hs) $$ [HR HH]
  · isplitl [HR] <;> iassumption
  icases HS with ⟨Hsrc, HR, HH⟩
  ihave HP := (mk_set S.p (fun t => cred (tallyAt (sndCell c t) () N)) (fun _ => iprop(emp)) t hp) $$ HP
  icases HP with ⟨-, HP⟩
  have hprog : (sendProg (F := F) (tgt c t) t).bind k = .op (.enqueueDma (srcM t) (.remote (Dev.tc (tgt c t)) (grpM (grp t)) (.dma (sendSem t))) (.dma (recvSem t)) (wordExact_src t) (wordExact_grp _) ⟨⟨rfl, Or.inl rfl⟩, trivial⟩) k := rfl
  rw [hprog]
  iapply (send_step X K c t S.u hu fd Wt) $$ [Hsrc Hfd HO Hts Htr]
  · isplitr; · iexact Hcs
    isplitr; · iexact Hcr
    isplitl [Hsrc]; · iexact Hsrc
    isplitl [Hfd]; · iexact Hfd
    isplitl [HO]; · iexact HO
    isplitl [Hts]; · iexact Hts
    isplitr; · iexact Hrs
    isplitl [Htr]; · iexact Htr
    iexact Hrr
  iintro ⟨Hcred, HO⟩
  iapply Hk
  isplitl [HO]
  · iexists Wt; iexact HO
  isplitl [HU]; · iapply HU; iempintro
  isplitl [HP Hcred]; · iapply HP; iexact Hcred
  isplitl [HW]; · iexact HW
  isplitl [HE]; · iexact HE
  isplitl [HR]; · iexact HR
  isplitl [HH]; · iexact HH
  iexact Hrest

/-- Waiting for transfer `t` to have arrived. -/
theorem op_recv (t : Fin 124) (S : St) (hok : ok (.recv t) S = true) {α : Type} {Q : α → sProp 𝕄}
    (k : PUnit → Prog (TpuEff nD τ sig (Elt F) Λ₀ .tc) α) :
    iprop(levAts L lv ∗ env X K c ∗ inv X W c S ∗ (inv X W c (next (.recv t) S) -∗ run c (k ⟨⟩) Q)) ⊢ run c ((recvProg t).bind k) Q := by
  simp only [ok, Bool.and_eq_true, Bool.not_eq_true', List.all_eq_true, Bool.or_eq_true] at hok
  obtain ⟨⟨hw, hr⟩, hl⟩ := hok
  have hlev : ∀ u : Fin 124, S.u.testBit u.val = true → lvOf (kindOf (.dma (recvSem t))) < (hop u).val + 2 := fun u hu => by
    have h := hl u (List.mem_finRange u)
    rw [hu] at h
    have h' : (hop t).val < (hop u).val := Nat.blt_eq.mp (h.resolve_left (by decide))
    rw [kind_rcv]; show (hop t).val + 2 < _; omega
  unfold inv
  iintro ⟨#Hlev, #He, ⟨⟨%Wt, HO⟩, HU, HP, HW, HE, HR, HH, HG, Hrest⟩, Hk⟩
  ihave #Hcr := (env_rcv X K c t) $$ He
  icases Hcr with ⟨#Hcr, #Hrr⟩
  ihave HW := (mk_clear S.w (awaited c) (fun t => semVal (rcvCell c t) 0) t hw) $$ HW
  icases HW with ⟨Haw, HW⟩
  unfold awaited
  icases Haw with ⟨Hat, Hc⟩
  ihave HR := (mk_set S.r (lentGrp X c) (fun _ => iprop(emp)) t hr) $$ HR
  icases HR with ⟨-, HR⟩
  have hprog : (recvProg (F := F) t).bind k = .op (.waitDma2 (recvSem t) (srcM t) (grpM (grp t)) (wordExact_src t) (wordExact_grp _)) k := rfl
  rw [hprog]
  iapply (Rounds.wp_wait_rest_token 𝒱₀ ER (sched X) (c : Thread nD τ) none (κ := K (c, some (rcvIx t)))
      (wpE_waitDma2_eq 𝒱₀ (c : Thread nD τ) none Set.univ) (Set.mem_univ _) () (O := owesOf S.u c) (W := Wt) (R := 0) (m := 0) (T := ∅)
      (by rw [Nat.zero_add, credit_grp, expect_rcv])) $$ [Hc HO Hat]
  · isplitr; · iexact Hcr
    isplitl [Hc]; · rw [credit_grp]; iexact Hc
    isplitl [HO]; · iexact HO
    isplitr; · iapply (mayWait_of c (.dma (recvSem t)) S.u hlev); iexact Hlev
    iexact Hat
  iintro ⟨HO, Hat, -, Hpay⟩
  ihave Hpay := (Entails.of_eq (rest_rcv X c t)) $$ Hpay
  unfold gPts
  ihave Hpay := (pointsTo_share (PosShare.mem_left_op_right fullShare)).1 $$ Hpay
  icases Hpay with ⟨Hl, Hr⟩
  imod (Rounds.cell_close ER (sched X) (Set.mem_univ (K (c, some (rcvIx t)))) (fun h => h) (R := 0 + 1) (duties_later X (rcvCell c t))) $$ [Hat] with Hz
  · isplitr; · iexact Hcr
    iexact Hat
  iapply Hk
  isplitl [HO]
  · iexists (insert (SemLoc.dma (recvSem t), ()) Wt); iexact HO
  isplitl [HU]; · iexact HU
  isplitl [HP]; · iexact HP
  isplitl [HW Hz]; · iapply HW; iexact Hz
  isplitl [HE]; · iexact HE
  isplitl [HR Hr]
  · iapply HR; unfold lentGrp gPts; iexact Hr
  isplitl [HH]; · iexact HH
  isplitl [HG Hl]
  · rw [show (next (.recv t) S).w = flip S.w t.val from rfl, recvd_flip S.w t hw]
    iapply (pointsTo_union (recvd_disjoint S.w t hw)).2
    isplitl [HG] <;> iassumption
  iexact Hrest

/-- Waiting for transfer `t` to have left. -/
theorem op_done (t : Fin 124) (S : St) (hok : ok (.done t) S = true) {α : Type} {Q : α → sProp 𝕄}
    (k : PUnit → Prog (TpuEff nD τ sig (Elt F) Λ₀ .tc) α) :
    iprop(levAts L lv ∗ env X K c ∗ inv X W c S ∗ (inv X W c (next (.done t) S) -∗ run c (k ⟨⟩) Q)) ⊢ run c ((doneProg t).bind k) Q := by
  simp only [ok, Bool.and_eq_true, Bool.not_eq_true', beq_iff_eq] at hok
  obtain ⟨⟨⟨hu, hp⟩, he⟩, hs⟩ := hok
  unfold inv
  iintro ⟨#Hlev, #He, ⟨⟨%Wt, HO⟩, HU, HP, HW, HE, HR, HH, Hrest⟩, Hk⟩
  ihave #Hcs := (env_snd X K c t) $$ He
  icases Hcs with ⟨#Hcs, #Hrs⟩
  ihave HP := (mk_clear S.p (fun t => cred (tallyAt (sndCell c t) () N)) (fun _ => iprop(emp)) t hp) $$ HP
  icases HP with ⟨Hc, HP⟩
  ihave HE := (mk_clear S.e (fun t => atPos ER (sndCell c t) 0 ∅ 0) (fun t => semVal (sndCell c t) 0) t he) $$ HE
  icases HE with ⟨Hat, HE⟩
  have hprog : (doneProg (F := F) t).bind k = .op (.waitDma2 (sendSem t) (grpM (grp t)) (srcM t) (wordExact_grp _) (wordExact_src t)) k := rfl
  rw [hprog]
  iapply (Rounds.wp_wait_rest_token 𝒱₀ ER (sched X) (c : Thread nD τ) none (κ := K (c, some (sndIx t)))
      (wpE_waitDma2_eq 𝒱₀ (c : Thread nD τ) none Set.univ) (Set.mem_univ _) () (O := owesOf S.u c) (W := Wt) (R := 0) (m := 0) (T := ∅)
      (by rw [Nat.zero_add, credit_src, expect_snd])) $$ [Hc HO Hat]
  · isplitr; · iexact Hcs
    isplitl [Hc]; · rw [credit_src]; iexact Hc
    isplitl [HO]; · iexact HO
    isplitr; · iapply (mayWait_of c (.dma (sendSem t)) S.u (fun u h => by rw [hu, Nat.zero_testBit] at h; exact absurd h (by decide))); iexact Hlev
    iexact Hat
  iintro ⟨HO, Hat, -, Hpay⟩
  ihave Hpay := (Entails.of_eq (rest_snd X c t)) $$ Hpay
  imod (Rounds.cell_close ER (sched X) (Set.mem_univ (K (c, some (sndIx t)))) (fun h => h) (R := 0 + 1) (duties_later X (sndCell c t))) $$ [Hat] with Hz
  · isplitr; · iexact Hcs
    iexact Hat
  ihave HS := (src_give X c t S hs) $$ [Hpay HR HH]
  · isplitl [Hpay]; · iexact Hpay
    isplitl [HR] <;> iassumption
  icases HS with ⟨HR, HH⟩
  iapply Hk
  isplitl [HO]
  · iexists (insert (SemLoc.dma (sendSem t), ()) Wt); iexact HO
  isplitl [HU]; · iexact HU
  isplitl [HP]; · iapply HP; iempintro
  isplitl [HW]; · iexact HW
  isplitl [HE Hz]; · iapply HE; iexact Hz
  isplitl [HR]; · iexact HR
  isplitl [HH]; · iexact HH
  iexact Hrest

end Steps

end Cert.RingGemm

end
-- ==== Proof.Products.lean ====
/-
# The products, and the whole list of operations

Storing a strip writes the rows of one device (`store_strip`, `put_strip`); a batch's rows are loaded from groups that
have landed; `run_ops` runs any list of operations that `okAll` accepts.
-/
module

public import proofs.«01_k».proof.Proof.Steps

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One strip -/

/-- The first row of the strip that a table word names. -/
theorem off2_dev (d : Dev nD) : k0_off2 (BitVec.ofNat 32 d.val) = ![128 * d.val, 0] := by revert d; decide +kernel
theorem off1_dev (d : Dev nD) : k0_off1 d = ![128 * d.val, 0] := by revert d; decide +kernel
/-- The strip of a device lies inside the output. -/
theorem inb_dev (d : Dev nD) : ∀ a, (![128 * d.val, 0] : Fin 2 → Nat) a + S128x256.size a ≤ S4096x256.size a := by
  intro a; have h : d.val < 32 := d.isLt
  fin_cases a
  · show 128 * d.val + 128 ≤ 4096; omega
  · show 0 + 256 ≤ 256; omega

section Products
variable (X : Dev nD → (cc0_stg0_0 : Ref sig .tc).ty.Contents (Elt F)) (W : Dev nD → (cc0_stg1_0 : Ref sig .tc).ty.Contents (Elt F))
variable (K : Dev nD × Option (Fin 256) → ℕ) (c : Dev nD)

/-- What the output holds after a store of the strip of slot `s` at the rows of `org c s`. -/
theorem written_store (M : Nat) (s : Fin 32) (off : Fin 2 → Nat) (h : off = ![128 * (org c s).val, 0])
    (hinb : ∀ a, off a + S128x256.size a ≤ S4096x256.size a) (f : (cc0_stg3_0 : Ref sig .tc).ty.Contents (Elt F)) (hf : Written X W c M f) :
    Written X W c (M ||| 2 ^ s.val)
      ((outM.access (Rect.unit (s := S4096x256) off S128x256.size hinb)).write (Elt F) f (strip X W c s) Finset.univ) := by
  subst h
  have hemb : ∀ k : S128x256.Idx, (outM.access (Rect.unit (s := S4096x256) ![128 * (org c s).val, 0] S128x256.size hinb)).emb k = outIx (org c s) k := by
    intro k; funext a; apply Fin.ext; fin_cases a
    · show 128 * (org c s).val + 1 * (k 0).val = 128 * (org c s).val + (k 0).val; omega
    · show 0 + 1 * (k 1).val = (k 1).val; omega
  refine written_put X W c M s f _ hf (fun k => ?_) (fun d hd k => ?_)
  · rw [← hemb k]
    exact (outM.access (Rect.unit (s := S4096x256) ![128 * (org c s).val, 0] S128x256.size hinb)).write_emb_of_mem f (strip X W c s) (Finset.mem_univ k)
  · refine (outM.access (Rect.unit (s := S4096x256) ![128 * (org c s).val, 0] S128x256.size hinb)).write_of_not_mem f (strip X W c s) Finset.univ (fun hm => ?_)
    obtain ⟨k', -, hk'⟩ := Finset.mem_map.mp hm
    rw [show (outM.access (Rect.unit (s := S4096x256) ![128 * (org c s).val, 0] S128x256.size hinb)).emb k' = outIx (org c s) k' from hemb k'] at hk'
    have h0 : 128 * (org c s).val + (k' 0).val = 128 * d.val + (k 0).val := congrArg (fun i : S4096x256.Idx => (i 0).val) hk'
    have h1 : (k' 0).val < 128 := (k' 0).isLt
    have h2 : (k 0).val < 128 := (k 0).isLt
    exact hd (Fin.ext (by omega))

/-- The output, with the strips of `M` written. -/
def outSt (M : Nat) : sProp 𝕄 := iprop(∃ f, ⌜Written X W c M f⌝ ∗ (((c : Thread nD τ).loc cc0_stg3_0) ↦{fullShare} f))
/-- The table. -/
def tabPts : sProp 𝕄 := ((c : Thread nD τ).loc cc0_stg2_0) ↦{fullShare} tab c

/-- Entry `i` of the table. -/
abbrev tabR (i : Fin 33) : Rect S33 := Rect.unit (s := S33) ![i.val] S1.size (inb_tab i)
/-- Reading entry `i` of the table. -/
theorem load_tab (i : Fin 33) {α : Type} {Q : α → sProp 𝕄} (k : BitVec 32 → Prog (TpuEff nD τ sig (Elt F) Λ₀ .tc) α) :
    tabPts c ⊢ iprop((tabPts c -∗ run c (k (BitVec.ofNat 32 (tabDev c i).val)) Q) -∗ run c ((loadTab i).bind k) Q) := by
  unfold tabPts
  iintro Ht Hk
  have hv : ∀ x, (tabM.access (tabR i)).read (Elt F) (tab c) x = (BitVec.ofNat 32 (tabDev c i).val : BitVec 32) := by
    intro x
    have hx : (x 0).val < 1 := (x 0).isLt
    have e : (tabM.access (tabR i)).emb x 0 = i := by
      apply Fin.ext; show i.val + 1 * (x 0).val = i.val; omega
    show (BitVec.ofNat 32 (tabDev c ((tabM.access (tabR i)).emb x 0)).val : BitVec 32) = _
    rw [e]
  have hprog : (loadTab (F := F) i).bind k = smemLoadElt tabM (tabR i)
      (View.loads_smem_one rfl numel1_S1) (Shape.Idx.first (numel1_S1.symm ▸ Nat.one_pos)) k := rfl
  rw [hprog]
  iapply (wp_smemLoadElt 𝒱₀ (c : Thread nD τ) none Set.univ (defs := defs₀ (F := F)) (k := k) (Q := Q) (m := tabM) (r := tabR i) (S := Finset.univ) (f := tab c) (q := fullShare) (Finset.subset_univ _)) $$ Ht
  iintro Ht
  rw [hv]
  iapply Hk; iexact Ht

/-- Storing the strip of a slot past slot 0. -/
theorem put_strip (M : Nat) (s : Fin 32) (hs : s.val ≠ 0) (y : FVec F S128x256 .f32) (hy : y = strip X W c s) {α : Type} {Q : α → sProp 𝕄}
    (k : PUnit → Prog (TpuEff nD τ sig (Elt F) Λ₀ .tc) α) :
    iprop(tabPts c ∗ outSt X W c M) ⊢ iprop(((tabPts c ∗ outSt X W c (M ||| 2 ^ s.val)) -∗ run c (k ⟨⟩) Q) -∗ run c ((putStrip s y).bind k) Q) := by
  subst hy
  have ht : tabDev c ⟨s.val + 1, by omega⟩ = org c s := tabDev_slot c s hs
  have hw : k0_chk3 (BitVec.ofNat 32 (org c s).val) := by
    unfold k0_chk3; rw [off2_dev]; exact inb_dev (org c s)
  have hprog : (putStrip (F := F) s (strip X W c s)).bind k = (loadTab ⟨s.val + 1, by omega⟩).bind fun v =>
      .op (.assume (k0_chk3 v) (k0_chk3.dec v)) fun h =>
      .op (.load outM (Rect.unit (s := S4096x256) (k0_off2 v) S128x256.size (k0_off2_inb v h.down)).toLoadRect (View.loadsAt_vmem h_S128x256)) fun _ =>
      .op (.store outM (Rect.unit (s := S4096x256) (k0_off2 v) S128x256.size (k0_off2_inb v h.down)) (strip X W c s) Finset.univ (View.stores_vmem_bits_univ h_S128x256 rfl) (.inl rfl)) k := rfl
  rw [hprog]
  unfold outSt
  iintro ⟨Ht, %f, %hf, Ho⟩ Hk
  iapply (load_tab c (⟨s.val + 1, Nat.succ_lt_succ s.isLt⟩ : Fin 33)) $$ Ht
  iintro Ht
  rw [ht]
  simp only [run, wp_assume_of _ _ _ _ (d := k0_chk3.dec _) hw]
  iapply (wp_load 𝒱₀ (c : Thread nD τ) none Set.univ (m := outM) (S := Finset.univ) (f := f) (q := fullShare) (Finset.subset_univ _)) $$ Ho
  iintro Ho
  iapply (wp_store 𝒱₀ (c : Thread nD τ) none Set.univ (m := outM)
    (r := Rect.unit (s := S4096x256) (k0_off2 (BitVec.ofNat 32 (org c s).val)) S128x256.size (k0_off2_inb _ hw)) (Mk := Finset.univ) (S := Finset.univ) (f := f) (Finset.subset_univ _)) $$ Ho
  iintro Ho
  iapply Hk
  isplitl [Ht]; · iexact Ht
  iexists _
  isplitr
  · ipureintro
    exact written_store X W c M s _ (off2_dev _) (k0_off2_inb _ hw) f hf
  iexact Ho

/-! ## The batches -/

/-- The bits of the first `n` slots of a batch from slot `lo`, added to `M` one at a time. -/
def addBits (lo M : Nat) : List Nat → Nat
  | [] => M
  | j :: js => addBits lo (M ||| 2 ^ (lo + j)) js
theorem addBits_four (lo : Fin 29) (M : Nat) : addBits lo.val M [0, 1, 2, 3] = M ||| (15 <<< lo.val) := by
  have h : 2 ^ (lo.val + 0) ||| (2 ^ (lo.val + 1) ||| (2 ^ (lo.val + 2) ||| 2 ^ (lo.val + 3))) = 15 <<< lo.val := by
    revert lo; decide +kernel
  simp only [addBits, Nat.or_assoc]; rw [h]
theorem addBits_three (M : Nat) : addBits 17 M [0, 1, 2] = M ||| (7 <<< 17) := by
  have h : 2 ^ (17 + 0) ||| (2 ^ (17 + 1) ||| 2 ^ (17 + 2)) = 7 <<< 17 := by decide +kernel
  simp only [addBits, Nat.or_assoc]; rw [h]

/-- Storing strips `ks` of a batch of four. -/
theorem put_strips4 (lo : Fin 29) (hlo : ∀ k : Fin 4, inFour (slotAt lo k) = true ∧ batchLo (slotAt lo k) = lo) (ks : List (Fin 4)) :
    ∀ (M : Nat) {α : Type} {Q : α → sProp 𝕄} (k : PUnit → Prog (TpuEff nD τ sig (Elt F) Λ₀ .tc) α),
      iprop(tabPts c ∗ outSt X W c M) ⊢ iprop(((tabPts c ∗ outSt X W c (addBits lo.val M (ks.map Fin.val))) -∗ run c (k ⟨⟩) Q)
        -∗ run c ((putStrips4 lo (k0_pay3 (rows4 X c lo) (cols W c)) ks).bind k) Q) := by
  induction ks with
  | nil => intro M α Q k; iintro H Hk; iapply Hk; iexact H
  | cons j ks ih =>
    intro M α Q k
    have h0 : (slotAt lo j).val ≠ 0 := fun h => by
      have h1 := (hlo j).1; unfold inFour at h1; rw [h] at h1; exact absurd h1 (by decide)
    have hprog : (putStrips4 (F := F) lo (k0_pay3 (rows4 X c lo) (cols W c)) (j :: ks)).bind k
        = (putStrip (slotAt lo j) (strip4 X W c lo j)).bind fun _ => (putStrips4 lo (k0_pay3 (rows4 X c lo) (cols W c)) ks).bind k := by
      exact Prog.bind_assoc _ _ _
    rw [hprog]
    iintro H Hk
    iapply (put_strip X W c M (slotAt lo j) h0 _ (strip_four X W c lo j (hlo j).1 (hlo j).2).symm) $$ H
    iintro H
    iapply (ih (M ||| 2 ^ (slotAt lo j).val) k) $$ H
    iexact Hk

/-- Storing strips `ks` of the last batch. -/
theorem put_strips3 (ks : List (Fin 3)) :
    ∀ (M : Nat) {α : Type} {Q : α → sProp 𝕄} (k : PUnit → Prog (TpuEff nD τ sig (Elt F) Λ₀ .tc) α),
      iprop(tabPts c ∗ outSt X W c M) ⊢ iprop(((tabPts c ∗ outSt X W c (addBits 17 M (ks.map Fin.val))) -∗ run c (k ⟨⟩) Q)
        -∗ run c ((putStrips3 (k0_pay38 (rows3 X c) (cols W c)) ks).bind k) Q) := by
  induction ks with
  | nil => intro M α Q k; iintro H Hk; iapply Hk; iexact H
  | cons j ks ih =>
    intro M α Q k
    have h0 : (slotAt3 j).val ≠ 0 := fun h => by
      have h1 : 17 + j.val = 0 := h
      omega
    have hprog : (putStrips3 (F := F) (k0_pay38 (rows3 X c) (cols W c)) (j :: ks)).bind k
        = (putStrip (slotAt3 j) (strip3 X W c j)).bind fun _ => (putStrips3 (k0_pay38 (rows3 X c) (cols W c)) ks).bind k := by
      exact Prog.bind_assoc _ _ _
    rw [hprog]
    iintro H Hk
    iapply (put_strip X W c M (slotAt3 j) h0 _ (strip_three X W c j).symm) $$ H
    iintro H
    iapply (ih (M ||| 2 ^ (slotAt3 j).val) k) $$ H
    iexact Hk

/-- Rows `128 lo, …, 128 lo + 32 n - 1` of the gathered operand, loaded through a rectangle of that many rows, have landed. -/
theorem sub_recvd (lo n : Nat) (S : St) (h : landed lo n S = true) (m : Nat) (hm : m = 32 * n)
    (sz : Fin 2 → Nat) (hsz : sz = ![m, 4096]) (hinb : ∀ a, (![128 * lo, 0] : Fin 2 → Nat) a + sz a ≤ S4096x4096.size a) :
    gM.view.setOn (Rect.unit (s := S4096x4096) ![128 * lo, 0] sz hinb).toLoadRect.set ⊆ recvd S.w := by
  subst hsz
  intro i hi
  obtain ⟨j, hj, rfl⟩ := Finset.mem_map.mp hi
  have hj' : j ∈ (Rect.unit (s := S4096x4096) ![128 * lo, 0] ![m, 4096] hinb).set := by
    exact hj
  have h0 : 128 * lo ≤ (j 0).val ∧ (j 0).val < 128 * lo + m := Rect.mem_set_unit.mp hj' 0
  exact batch_recvd lo n S h j h0.1 (by omega)

/-- A batch of four. -/
theorem op_four (lo : Fin 29) (S : St) (hok : ok (.four lo) S = true) {α : Type} {Q : α → sProp 𝕄}
    (k : PUnit → Prog (TpuEff nD τ sig (Elt F) Λ₀ .tc) α) :
    iprop(inv X W c S ∗ (inv X W c (next (.four lo) S) -∗ run c (k ⟨⟩) Q)) ⊢ run c ((batch4 lo).bind k) Q := by
  simp only [ok, Bool.and_eq_true, List.all_eq_true, beq_iff_eq] at hok
  obtain ⟨hl, hs⟩ := hok
  have hlo : ∀ k : Fin 4, inFour (slotAt lo k) = true ∧ batchLo (slotAt lo k) = lo := fun k => hs k (List.mem_finRange k)
  have hprog : (batch4 (F := F) lo).bind k
      = .op (.load gM (Rect.unit (s := S4096x4096) ![128 * lo.val, 0] S512x4096.size (inb_batch lo)).toLoadRect (View.loadsAt_vmem h_S512x4096)) fun g =>
        .op (.load wM (Rect.unit (s := S4096x256) ![0, 0] S4096x256.size inb_S4096x256_S4096x256_0_0).toLoadRect (View.loadsAt_vmem h_S4096x256)) fun w =>
        (putStrips4 lo (k0_pay3 g w) [0, 1, 2, 3]).bind k := rfl
  rw [hprog]
  unfold inv
  iintro ⟨⟨HO, HU, HP, HW, HE, HR, HH, HG, Hout, Hx, Hw, Ht⟩, Hk⟩
  iapply (wp_load 𝒱₀ (c : Thread nD τ) none Set.univ (m := gM) (S := recvd S.w) (f := gath X c) (q := fullShare.left)
    (sub_recvd lo.val 16 S hl 512 rfl _ (by funext a; fin_cases a <;> rfl) (inb_batch lo))) $$ HG
  iintro HG
  iapply (wp_load 𝒱₀ (c : Thread nD τ) none Set.univ (m := wM) (S := Finset.univ) (f := W c) (q := fullShare) (Finset.subset_univ _)) $$ Hw
  iintro Hw
  iapply (put_strips4 X W c lo hlo [0, 1, 2, 3] S.o k) $$ [Hout Ht]
  · unfold tabPts outSt; isplitl [Ht] <;> iassumption
  rw [show ([0, 1, 2, 3] : List (Fin 4)).map Fin.val = [0, 1, 2, 3] from rfl, addBits_four]
  unfold tabPts outSt
  iintro ⟨Ht, Hout⟩
  iapply Hk
  isplitl [HO]; · iexact HO
  isplitl [HU]; · iexact HU
  isplitl [HP]; · iexact HP
  isplitl [HW]; · iexact HW
  isplitl [HE]; · iexact HE
  isplitl [HR]; · iexact HR
  isplitl [HH]; · iexact HH
  isplitl [HG]; · iexact HG
  isplitl [Hout]; · iexact Hout
  isplitl [Hx]; · iexact Hx
  isplitl [Hw]; · iexact Hw
  iexact Ht

/-- The last batch. -/
theorem op_three (S : St) (hok : ok .three S = true) {α : Type} {Q : α → sProp 𝕄}
    (k : PUnit → Prog (TpuEff nD τ sig (Elt F) Λ₀ .tc) α) :
    iprop(inv X W c S ∗ (inv X W c (next .three S) -∗ run c (k ⟨⟩) Q)) ⊢ run c (batch3.bind k) Q := by
  have hl : landed 17 12 S = true := hok
  have hprog : (batch3 (F := F)).bind k
      = .op (.load gM (Rect.unit (s := S4096x4096) ![2176, 0] S384x4096.size inb_S4096x4096_S384x4096_2176_0).toLoadRect (View.loadsAt_vmem h_S384x4096)) fun g =>
        .op (.load wM (Rect.unit (s := S4096x256) ![0, 0] S4096x256.size inb_S4096x256_S4096x256_0_0).toLoadRect (View.loadsAt_vmem h_S4096x256)) fun w =>
        (putStrips3 (k0_pay38 g w) [0, 1, 2]).bind k := rfl
  rw [hprog]
  unfold inv
  iintro ⟨⟨HO, HU, HP, HW, HE, HR, HH, HG, Hout, Hx, Hw, Ht⟩, Hk⟩
  iapply (wp_load 𝒱₀ (c : Thread nD τ) none Set.univ (m := gM) (S := recvd S.w) (f := gath X c) (q := fullShare.left)
    (sub_recvd 17 12 S hl 384 rfl _ (by funext a; fin_cases a <;> rfl) inb_S4096x4096_S384x4096_2176_0)) $$ HG
  iintro HG
  iapply (wp_load 𝒱₀ (c : Thread nD τ) none Set.univ (m := wM) (S := Finset.univ) (f := W c) (q := fullShare) (Finset.subset_univ _)) $$ Hw
  iintro Hw
  iapply (put_strips3 X W c [0, 1, 2] S.o k) $$ [Hout Ht]
  · unfold tabPts outSt; isplitl [Ht] <;> iassumption
  rw [show ([0, 1, 2] : List (Fin 3)).map Fin.val = [0, 1, 2] from rfl, addBits_three]
  unfold tabPts outSt
  iintro ⟨Ht, Hout⟩
  iapply Hk
  isplitl [HO]; · iexact HO
  isplitl [HU]; · iexact HU
  isplitl [HP]; · iexact HP
  isplitl [HW]; · iexact HW
  isplitl [HE]; · iexact HE
  isplitl [HR]; · iexact HR
  isplitl [HH]; · iexact HH
  isplitl [HG]; · iexact HG
  isplitl [Hout]; · iexact Hout
  isplitl [Hx]; · iexact Hx
  isplitl [Hw]; · iexact Hw
  iexact Ht

/-- The product of the own rows. -/
theorem op_own (S : St) {α : Type} {Q : α → sProp 𝕄} (k : PUnit → Prog (TpuEff nD τ sig (Elt F) Λ₀ .tc) α) :
    iprop(inv X W c S ∗ (inv X W c (next .own S) -∗ run c (k ⟨⟩) Q)) ⊢ run c (ownRows.bind k) Q := by
  have hprog : (ownRows (F := F)).bind k
      = .op (.load xM (Rect.unit (s := S128x4096) ![0, 0] S128x4096.size inb_S128x4096_S128x4096_0_0).toLoadRect (View.loadsAt_vmem h_S128x4096)) fun x =>
        .op (.load wM (Rect.unit (s := S4096x256) ![0, 0] S4096x256.size inb_S4096x256_S4096x256_0_0).toLoadRect (View.loadsAt_vmem h_S4096x256)) fun w =>
        .op .deviceId fun d =>
        .op (.load outM (Rect.unit (s := S4096x256) (k0_off1 d) S128x256.size (k0_off1_inb d)).toLoadRect (View.loadsAt_vmem h_S128x256)) fun _ =>
        .op (.store outM (Rect.unit (s := S4096x256) (k0_off1 d) S128x256.size (k0_off1_inb d)) (k0_pay2 (k0_pay1 x) w) Finset.univ (View.stores_vmem_bits_univ h_S128x256 rfl) (.inl rfl)) k := rfl
  rw [hprog]
  unfold inv
  iintro ⟨⟨HO, HU, HP, HW, HE, HR, HH, HG, ⟨%f, %hf, Hout⟩, Hx, Hw, Ht⟩, Hk⟩
  iapply (wp_load 𝒱₀ (c : Thread nD τ) none Set.univ (m := xM) (S := Finset.univ) (f := X c) (q := fullShare.left) (Finset.subset_univ _)) $$ Hx
  iintro Hx
  iapply (wp_load 𝒱₀ (c : Thread nD τ) none Set.univ (m := wM) (S := Finset.univ) (f := W c) (q := fullShare) (Finset.subset_univ _)) $$ Hw
  iintro Hw
  simp only [run, wp_deviceId]
  iapply (wp_load 𝒱₀ (c : Thread nD τ) none Set.univ (m := outM) (S := Finset.univ) (f := f) (q := fullShare) (Finset.subset_univ _)) $$ Hout
  iintro Hout
  iapply (wp_store 𝒱₀ (c : Thread nD τ) none Set.univ (m := outM)
    (r := Rect.unit (s := S4096x256) (k0_off1 c) S128x256.size (k0_off1_inb c)) (Mk := Finset.univ) (S := Finset.univ) (f := f) (Finset.subset_univ _)) $$ Hout
  iintro Hout
  iapply Hk
  isplitl [HO]; · iexact HO
  isplitl [HU]; · iexact HU
  isplitl [HP]; · iexact HP
  isplitl [HW]; · iexact HW
  isplitl [HE]; · iexact HE
  isplitl [HR]; · iexact HR
  isplitl [HH]; · iexact HH
  isplitl [HG]; · iexact HG
  isplitl [Hout]
  · iexists _
    isplitr
    · ipureintro
      exact written_store X W c S.o 0 _ (by rw [off1_dev, org_zero]) (k0_off1_inb c) f hf
    iexact Hout
  isplitl [Hx]; · iexact Hx
  isplitl [Hw]; · iexact Hw
  iexact Ht

/-! ## The list -/

/-- The operations of a list that `okAll` accepts at `S`. -/
theorem run_ops (v0 : BitVec 32) (h0 : k0_chk1 v0) (v1 : BitVec 32) (h1 : k0_chk2 v1) (ht : ∀ t, target v0 h0 v1 h1 t = tgt c t)
    (os : List Op) : ∀ (S : St), okAll os S = true → ∀ (Q : PUnit → sProp 𝕄),
      iprop(levAts L lv ∗ env X K c ∗ inv X W c S ∗ (inv X W c (nextAll os S) -∗ Q ⟨⟩)) ⊢ run c (runOps v0 h0 v1 h1 os) Q := by
  induction os with
  | nil =>
    intro S _ Q
    unfold runOps run
    iintro ⟨-, -, Hi, Hk⟩
    rw [wp_ret]; imodintro
    iapply Hk; iexact Hi
  | cons o os ih =>
    intro S hok Q
    rw [okAll, Bool.and_eq_true] at hok
    have hrest := ih (next o S) hok.2 Q
    have hone : ∀ k : PUnit → Prog (TpuEff nD τ sig (Elt F) Λ₀ .tc) PUnit,
        iprop(levAts L lv ∗ env X K c ∗ inv X W c S ∗ (inv X W c (next o S) -∗ run c (k ⟨⟩) Q)) ⊢ run c ((runOp v0 h0 v1 h1 o).bind k) Q := by
      intro k
      cases o with
      | send t =>
        rw [runOp, ht]
        iintro ⟨-, H⟩; iapply (op_send X W K c t S hok.1 k); iexact H
      | recv t => exact op_recv X W K c t S hok.1 k
      | done t => exact op_done X W K c t S hok.1 k
      | own => iintro ⟨-, -, H⟩; iapply (op_own X W c S k); iexact H
      | four lo => iintro ⟨-, -, H⟩; iapply (op_four X W c lo S hok.1 k); iexact H
      | three => iintro ⟨-, -, H⟩; iapply (op_three X W c S hok.1 k); iexact H
    iintro ⟨#Hlev, #He, Hi, Hk⟩
    iapply (hone fun _ => runOps v0 h0 v1 h1 os)
    isplitr; · iexact Hlev
    isplitr; · iexact He
    isplitl [Hi]; · iexact Hi
    iintro Hi
    iapply hrest
    isplitr; · iexact Hlev
    isplitr; · iexact He
    isplitl [Hi]; · iexact Hi
    iexact Hk

end Products

end Cert.RingGemm

end
-- ==== Proof.Split.lean ====
/-
# Taking the buffers and semaphores apart

What a device holds when the body starts is taken apart into what `inv` holds, and put together again at the end:
its semaphores by use, the gathered operand by groups, the own block by shares and sub-blocks.
-/
module

public import proofs.«01_k».proof.Proof.Products

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores by use -/

/-- The eight entries of the four arrays that no transfer uses. -/
def idleIx : Fin 8 → Fin 256 := ![62, 63, 126, 127, 188, 189, 252, 253]
/-- The entry of a use. -/
def ixOf : (Fin 124 ⊕ Fin 124) ⊕ Fin 8 → Fin 256
  | .inl (.inl t) => sndIx t
  | .inl (.inr t) => rcvIx t
  | .inr k => idleIx k
theorem ixOf_injective : Function.Injective ixOf := by decide +kernel
theorem ixOf_bijective : Function.Bijective ixOf :=
  (Fintype.bijective_iff_injective_and_card ixOf).mpr ⟨ixOf_injective, by simp⟩

theorem sep_assoc_eq (A B C : sProp 𝕄) : BI.sep (BI.sep A B) C = BI.sep A (BI.sep B C) := by ac_rfl

/-- A family over the entries, by use. -/
theorem by_use (Φ : Fin 256 → sProp 𝕄) : bigSep Finset.univ Φ
    = iprop((bigSep Finset.univ fun t => Φ (sndIx t)) ∗ (bigSep Finset.univ fun t => Φ (rcvIx t)) ∗ bigSep Finset.univ fun k => Φ (idleIx k)) := by
  rw [bigSep_univ_equiv (Equiv.ofBijective ixOf ixOf_bijective) Φ, bigSep_univ_sum, bigSep_univ_sum]
  exact sep_assoc_eq _ _ _

/-- A family over the transfers, the clockwise ones apart. -/
theorem by_way (Φ : Fin 124 → sProp 𝕄) : bigSep Finset.univ Φ
    = iprop((bigSep (Finset.univ.filter fun t => cw t = true) Φ) ∗ bigSep (Finset.univ.filter fun t => cw t = false) Φ) := by
  have hd : Disjoint (Finset.univ.filter fun t : Fin 124 => cw t = true) (Finset.univ.filter fun t => cw t = false) := by
    rw [Finset.disjoint_filter]; intro t _ h h'; rw [h] at h'; exact absurd h' (by decide)
  have hu : (Finset.univ : Finset (Fin 124)) = (Finset.univ.filter fun t => cw t = true) ∪ (Finset.univ.filter fun t => cw t = false) := by
    ext t; rw [Finset.mem_union, Finset.mem_filter, Finset.mem_filter]
    cases h : cw t
    · exact ⟨fun _ => .inr ⟨Finset.mem_univ _, rfl⟩, fun _ => Finset.mem_univ _⟩
    · exact ⟨fun _ => .inl ⟨Finset.mem_univ _, rfl⟩, fun _ => Finset.mem_univ _⟩
  conv_lhs => rw [hu]
  exact BI.bigSep_union hd

/-! ## The gathered operand -/

/-- The rows of slot 0 of the gathered operand, which nothing uses. -/
def slot0 : Finset S4096x4096.Idx := Finset.univ.filter fun i => (i 0).val / 32 < 4
theorem slot0_disjoint : Disjoint slot0 (recvd 0) := by
  rw [Finset.disjoint_left]; intro i h h'
  have h1 := (Finset.mem_filter.mp h).2
  have h2 := ((mem_recvd _ _).mp h').1
  omega
theorem slot0_union : slot0 ∪ recvd 0 = Finset.univ := by
  refine Finset.eq_univ_of_forall fun i => Finset.mem_union.mpr ?_
  by_cases h : (i 0).val / 32 < 4
  · exact .inl (Finset.mem_filter.mpr ⟨Finset.mem_univ _, h⟩)
  · exact .inr ((mem_recvd _ _).mpr ⟨by omega, Nat.zero_testBit _⟩)
theorem recvd_groups : recvd 0 = Finset.univ.biUnion fun t : Fin 124 => ((grpM (grp t)).view.set : Finset S4096x4096.Idx) := by
  ext i
  rw [mem_recvd, Finset.mem_biUnion]
  have h0 : (i 0).val < 4096 := (i 0).isLt
  constructor
  · rintro ⟨h, -⟩
    refine ⟨⟨(i 0).val / 32 - 4, by omega⟩, Finset.mem_univ _, (mem_grp _ i).mpr ?_⟩
    show (i 0).val / 32 = (i 0).val / 32 - 4 + 4; omega
  · rintro ⟨t, -, h⟩
    have h1 : (i 0).val / 32 = t.val + 4 := (mem_grp _ i).mp h
    exact ⟨by omega, Nat.zero_testBit _⟩
theorem groups_disjoint : ∀ t ∈ (Finset.univ : Finset (Fin 124)), ∀ t' ∈ (Finset.univ : Finset (Fin 124)), t ≠ t' →
    Disjoint ((grpM (grp t)).view.set : Finset S4096x4096.Idx) (grpM (grp t')).view.set := by
  intro t _ t' _ h
  rw [Finset.disjoint_left]; intro i hi hi'
  have h1 : (i 0).val / 32 = t.val + 4 := (mem_grp _ i).mp hi
  have h2 : (i 0).val / 32 = t'.val + 4 := (mem_grp _ i).mp hi'
  exact h (Fin.ext (by omega))

theorem groups_eq (c : Dev nD) (sh : PosShare TreeShare) (f : (cc0_scratch0 : Ref sig .tc).ty.Contents (Elt F)) :
    (((c : Thread nD τ).loc cc0_scratch0) ↦[recvd 0]{sh} f : sProp 𝕄) = bigSep Finset.univ fun t : Fin 124 => gPts c (grp t) sh f := by
  rw [recvd_groups]
  exact pointsTo_biUnion _ _ groups_disjoint

/-- The gathered operand is slot 0 and the groups. -/
theorem scratch_split (c : Dev nD) (f : (cc0_scratch0 : Ref sig .tc).ty.Contents (Elt F)) :
    (((c : Thread nD τ).loc cc0_scratch0) ↦{fullShare} f : sProp 𝕄)
      ⊢ iprop((((c : Thread nD τ).loc cc0_scratch0) ↦[slot0]{fullShare} f) ∗ bigSep Finset.univ fun t : Fin 124 => gPts c (grp t) fullShare f) := by
  rw [← groups_eq, ← slot0_union]
  exact (pointsTo_union slot0_disjoint).1

section Scratch
variable (X : Dev nD → (cc0_stg0_0 : Ref sig .tc).ty.Contents (Elt F))

/-- Slot 0 and the two shares of the landed groups are the gathered operand. -/
theorem scratch_join (c : Dev nD) (f : (cc0_scratch0 : Ref sig .tc).ty.Contents (Elt F)) :
    iprop((((c : Thread nD τ).loc cc0_scratch0) ↦[slot0]{fullShare} f) ∗ (((c : Thread nD τ).loc cc0_scratch0) ↦[recvd 0]{fullShare.left} gath X c)
        ∗ bigSep Finset.univ (lentGrp X c))
      ⊢ (iprop(∃ f : Buf (Elt F) ((c : Thread nD τ).loc cc0_scratch0), ((c : Thread nD τ).loc cc0_scratch0) ↦{fullShare} f) : sProp 𝕄) := by
  have hr : bigSep Finset.univ (lentGrp X c) = (((c : Thread nD τ).loc cc0_scratch0) ↦[recvd 0]{fullShare.right} gath X c : sProp 𝕄) :=
    (groups_eq c fullShare.right (gath X c)).symm
  rw [hr]
  iintro ⟨H0, Hl, Hr⟩
  ihave H := (pointsTo_share (PosShare.mem_left_op_right fullShare)).2 $$ [Hl Hr]
  · isplitl [Hl] <;> iassumption
  have hj : iprop((((c : Thread nD τ).loc cc0_scratch0) ↦[slot0]{fullShare} f) ∗ (((c : Thread nD τ).loc cc0_scratch0) ↦[recvd 0]{fullShare} gath X c))
      ⊢ (((c : Thread nD τ).loc cc0_scratch0) ↦[slot0 ∪ recvd 0]{fullShare} ((recvd 0).piecewise (gath X c) f) : sProp 𝕄) := pointsTo_join slot0_disjoint
  rw [slot0_union] at hj
  ihave H := hj $$ [H0 H]
  · isplitl [H0] <;> iassumption
  iexists _; iexact H

/-! ## The own block -/

theorem mem_own (j : Fin 4) (i : S128x4096.Idx) : i ∈ ((ownM j).view.set : Finset S128x4096.Idx) ↔ (i 0).val / 32 = j.val := by
  have h1 : (i 1).val < 4096 := (i 1).isLt
  have e : ((ownM j).view.set : Finset S128x4096.Idx) = (ownR j).set := View.set_slice_whole cc0_stg0_0 (ownR j)
  refine (Iff.of_eq (congrArg (fun A : Finset S128x4096.Idx => i ∈ A) e)).trans (Rect.mem_set_unit.trans ⟨fun h => ?_, fun h a => ?_⟩)
  · have h0 : 32 * j.val ≤ (i 0).val ∧ (i 0).val < 32 * j.val + 32 := h 0
    omega
  · fin_cases a
    · show 32 * j.val ≤ (i 0).val ∧ (i 0).val < 32 * j.val + 32
      omega
    · show 0 ≤ (i 1).val ∧ (i 1).val < 0 + 4096
      omega

/-- The own block, at a share, is its four sub-blocks. -/
theorem own_subs (c : Dev nD) (sh : PosShare TreeShare) (f : (cc0_stg0_0 : Ref sig .tc).ty.Contents (Elt F)) :
    (((c : Thread nD τ).loc cc0_stg0_0) ↦{sh} f : sProp 𝕄) = bigSep Finset.univ fun j : Fin 4 => xPts c j sh f := by
  have hu : (Finset.univ : Finset S128x4096.Idx) = Finset.univ.biUnion fun j : Fin 4 => ((ownM j).view.set : Finset S128x4096.Idx) := by
    ext i
    rw [Finset.mem_biUnion]
    have h0 : (i 0).val < 128 := (i 0).isLt
    exact ⟨fun _ => ⟨⟨(i 0).val / 32, by omega⟩, Finset.mem_univ _, (mem_own _ i).mpr rfl⟩, fun _ => Finset.mem_univ _⟩
  have hd : ∀ j ∈ (Finset.univ : Finset (Fin 4)), ∀ j' ∈ (Finset.univ : Finset (Fin 4)), j ≠ j' →
      Disjoint ((ownM j).view.set : Finset S128x4096.Idx) (ownM j').view.set := by
    intro j _ j' _ h
    rw [Finset.disjoint_left]; intro i hi hi'
    exact h (Fin.ext (((mem_own _ i).mp hi).symm.trans ((mem_own _ i).mp hi')))
  have h : (((c : Thread nD τ).loc cc0_stg0_0) ↦[Finset.univ.biUnion fun j : Fin 4 => ((ownM j).view.set : Finset S128x4096.Idx)]{sh} f : sProp 𝕄)
      = bigSep Finset.univ fun j : Fin 4 => xPts c j sh f := pointsTo_biUnion _ _ hd
  exact (congrArg (fun A : Finset S128x4096.Idx => (((c : Thread nD τ).loc cc0_stg0_0) ↦[A]{sh} f : sProp 𝕄)) hu).trans h

/-- The eight lent shares of the own block are its right half. -/
theorem lent_eq (c : Dev nD) : bigSep Finset.univ (lentOwn X c)
    = iprop((((c : Thread nD τ).loc cc0_stg0_0) ↦{fullShare.right.left} X c) ∗ (((c : Thread nD τ).loc cc0_stg0_0) ↦{fullShare.right.right} X c)) := by
  rw [own_subs, own_subs, bigSep_univ_equiv (finSumFinEquiv : Fin 4 ⊕ Fin 4 ≃ Fin 8), bigSep_univ_sum]
  have hl : ∀ j : Fin 4, lentOwn X c ((finSumFinEquiv : Fin 4 ⊕ Fin 4 ≃ Fin 8) (.inl j)) = xPts c j fullShare.right.left (X c) := by
    intro j
    have e1 : Fin.ofNat 4 ((finSumFinEquiv : Fin 4 ⊕ Fin 4 ≃ Fin 8) (.inl j)).val = j := by revert j; decide
    have e2 : Nat.blt ((finSumFinEquiv : Fin 4 ⊕ Fin 4 ≃ Fin 8) (.inl j)).val 4 = true := by revert j; decide
    unfold lentOwn; rw [e1, e2]; rfl
  have hr : ∀ j : Fin 4, lentOwn X c ((finSumFinEquiv : Fin 4 ⊕ Fin 4 ≃ Fin 8) (.inr j)) = xPts c j fullShare.right.right (X c) := by
    intro j
    have e1 : Fin.ofNat 4 ((finSumFinEquiv : Fin 4 ⊕ Fin 4 ≃ Fin 8) (.inr j)).val = j := by revert j; decide
    have e2 : Nat.blt ((finSumFinEquiv : Fin 4 ⊕ Fin 4 ≃ Fin 8) (.inr j)).val 4 = false := by revert j; decide
    unfold lentOwn; rw [e1, e2]; rfl
  rw [bigSep_congr fun j _ => hl j, bigSep_congr fun j _ => hr j]
  rfl

/-- The own block is its left half and the eight lent shares. -/
theorem own_split (c : Dev nD) : (((c : Thread nD τ).loc cc0_stg0_0) ↦{fullShare} X c : sProp 𝕄)
    ⊣⊢ iprop((((c : Thread nD τ).loc cc0_stg0_0) ↦{fullShare.left} X c) ∗ bigSep Finset.univ (lentOwn X c)) := by
  rw [lent_eq]
  constructor
  · iintro H
    ihave H := (pointsTo_share (PosShare.mem_left_op_right fullShare)).1 $$ H
    icases H with ⟨Hl, Hr⟩
    isplitl [Hl]; · iexact Hl
    iapply (pointsTo_share (PosShare.mem_left_op_right fullShare.right)).1; iexact Hr
  · iintro ⟨Hl, Hr⟩
    iapply (pointsTo_share (PosShare.mem_left_op_right fullShare)).2
    isplitl [Hl]; · iexact Hl
    iapply (pointsTo_share (PosShare.mem_left_op_right fullShare.right)).2; iexact Hr

end Scratch

end Cert.RingGemm

end
-- ==== Proof.Body.lean ====
/-
# The body

A device hands the rows of its gathered operand to its neighbours over the barrier, then runs the operations; at the
end every buffer is whole again, every semaphore is at zero, and the output block holds `outAt`.
-/
module

public import proofs.«01_k».proof.Proof.Split

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The neighbours the table names -/

theorem dev1_word : ∀ d : Dev nD, k0_dev1 (BitVec.ofNat 32 d.val) = d.val := by decide +kernel
theorem dev2_word : ∀ d : Dev nD, k0_dev2 (BitVec.ofNat 32 d.val) = d.val := by decide +kernel
theorem chk1_word : ∀ d : Dev nD, k0_chk1 (BitVec.ofNat 32 d.val) := by decide +kernel
theorem chk2_word : ∀ d : Dev nD, k0_chk2 (BitVec.ofNat 32 d.val) := by decide +kernel
theorem devL_word (d : Dev nD) (h : k0_chk1 (BitVec.ofNat 32 d.val)) : devL (BitVec.ofNat 32 d.val) h = d := Fin.ext (dev1_word d)
theorem devR_word (d : Dev nD) (h : k0_chk2 (BitVec.ofNat 32 d.val)) : devR (BitVec.ofNat 32 d.val) h = d := Fin.ext (dev2_word d)
theorem tabDev_zero (c : Dev nD) : tabDev c 0 = left c := if_pos rfl
theorem tabDev_one (c : Dev nD) : tabDev c 1 = right c := (if_neg (by decide)).trans (if_pos rfl)

section Body
variable (X : Dev nD → (cc0_stg0_0 : Ref sig .tc).ty.Contents (Elt F)) (W : Dev nD → (cc0_stg1_0 : Ref sig .tc).ty.Contents (Elt F))
variable (K : Dev nD × Option (Fin 256) → ℕ) (c : Dev nD)

/-! ## What the barrier hands over -/

/-- The rows of device `c`'s own gathered operand that transfer `t` lands in, and that their semaphore is open. -/
def offer (c : Dev nD) (t : Fin 124) : sProp 𝕄 := iprop((∃ f, gPts c (grp t) fullShare f) ∗ reached ER (rcvCell c t) 0)
theorem landAt_offer (d c : Dev nD) (t : Fin 124) (h : tgt d t = c) : (landAt d t : sProp 𝕄) = offer c t := by
  unfold landAt offer; rw [h]

theorem pay_left : bigSep (Finset.univ.filter fun t => cw t = true) (fun t => (offer c t : sProp 𝕄)) ⊢ barPay (left c) false :=
  Entails.of_eq (bigSep_congr fun t ht => by
    have h : cw t = true := (Finset.mem_filter.mp ht).2
    refine (landAt_offer (left c) c t ?_).symm
    unfold tgt; rw [h]; exact right_left c)
theorem pay_right : bigSep (Finset.univ.filter fun t => cw t = false) (fun t => (offer c t : sProp 𝕄)) ⊢ barPay (right c) true :=
  Entails.of_eq (bigSep_congr fun t ht => by
    have h : cw t = false := (Finset.mem_filter.mp ht).2
    refine (landAt_offer (right c) c t ?_).symm
    unfold tgt; rw [h]; exact left_right c)
/-- What the two neighbours hand over is all the rows device `c`'s transfers land in. -/
theorem pay_all : iprop(barPay c false ∗ barPay c true) = (bigSep Finset.univ fun t => landAt (F := F) c t) := (by_way _).symm

/-! ## What a device starts from and ends with -/

/-- What a device owes: every transfer, and a signal to either neighbour. -/
def O₀ (c : Dev nD) : CellTallies nD τ sig Unit :=
  owesOf (allBits 124) c + tallyAt (barCell (right c)) () 1 + tallyAt (barCell (left c)) () 1

/-- The rights a device starts with. -/
def rights (c : Dev nD) : sProp 𝕄 :=
  iprop(atPos ER (barCell c) 0 ∅ 0 ∗ (bigSep Finset.univ fun t => atPos ER (sndCell c t) 0 ∅ 0) ∗ (bigSep Finset.univ fun t => atPos ER (rcvCell c t) 0 ∅ 0)
    ∗ (bigSep Finset.univ fun k => semVal (kcell (c, some (idleIx k))) 0)
    ∗ dutyTok ER (barCell (left c)) 0 false ∗ dutyTok ER (barCell (right c)) 0 true
    ∗ (bigSep Finset.univ fun t => dutyTok ER (sndCell c t) 0 false) ∗ (bigSep Finset.univ fun t => dutyTok ER (rcvCell (tgt c t) t) 0 false)
    ∗ cred (tallyAt (barCell c) () 2) ∗ (bigSep Finset.univ fun t => cred (tallyAt (rcvCell c t) () N)))

/-- The gathered operand, with any contents. -/
def scratch (c : Dev nD) : sProp 𝕄 :=
  iprop(∃ f : Buf (Elt F) ((c : Thread nD τ).loc cc0_scratch0), ((c : Thread nD τ).loc cc0_scratch0) ↦{fullShare} f)

/-- What the body starts from. -/
def atStart (c : Dev nD) : sProp 𝕄 :=
  iprop(levAts L lv ∗ env X K c ∗ rights c ∗ scratch c ∗ (∃ Wt, owes (c : Thread nD τ) (O₀ c) Wt)
    ∗ (((c : Thread nD τ).loc cc0_stg0_0) ↦{fullShare} X c) ∗ (((c : Thread nD τ).loc cc0_stg1_0) ↦{fullShare} W c)
    ∗ (((c : Thread nD τ).loc cc0_stg2_0) ↦{fullShare} tab c)
    ∗ (∃ f : Buf (Elt F) ((c : Thread nD τ).loc cc0_stg3_0), ((c : Thread nD τ).loc cc0_stg3_0) ↦{fullShare} f))

/-- What it ends with. -/
def atEnd (c : Dev nD) : sProp 𝕄 :=
  iprop(scratch c ∗ (bigSep Finset.univ fun i : Fin 256 => semVal (kcell (c, some i)) 0) ∗ semVal (barCell c) 0
    ∗ (∃ Wt, owes (c : Thread nD τ) (0 : CellTallies nD τ sig Unit) Wt)
    ∗ (((c : Thread nD τ).loc cc0_stg0_0) ↦{fullShare} X c) ∗ (((c : Thread nD τ).loc cc0_stg1_0) ↦{fullShare} W c)
    ∗ (((c : Thread nD τ).loc cc0_stg2_0) ↦{fullShare} tab c)
    ∗ (((c : Thread nD τ).loc cc0_stg3_0) ↦{fullShare} outAt X W c))

/-- What of the rights is left past the barrier. -/
def past (c : Dev nD) : sProp 𝕄 :=
  iprop((bigSep Finset.univ fun t => atPos ER (sndCell c t) 0 ∅ 0) ∗ (bigSep Finset.univ fun t => atPos ER (rcvCell c t) 0 ∅ 0)
    ∗ (bigSep Finset.univ fun t => dutyTok ER (sndCell c t) 0 false) ∗ (bigSep Finset.univ fun t => dutyTok ER (rcvCell (tgt c t) t) 0 false)
    ∗ (bigSep Finset.univ fun t => cred (tallyAt (rcvCell c t) () N)) ∗ (bigSep Finset.univ fun t => landAt c t))

/-- Past the barrier a device holds the invariant at the first state. -/
theorem inv_start : iprop(past c ∗ (∃ Wt, owes (c : Thread nD τ) (owesOf (allBits 124) c) Wt)
      ∗ (((c : Thread nD τ).loc cc0_stg0_0) ↦{fullShare} X c) ∗ (((c : Thread nD τ).loc cc0_stg1_0) ↦{fullShare} W c)
      ∗ (((c : Thread nD τ).loc cc0_stg2_0) ↦{fullShare} tab c)
      ∗ (∃ f : Buf (Elt F) ((c : Thread nD τ).loc cc0_stg3_0), ((c : Thread nD τ).loc cc0_stg3_0) ↦{fullShare} f))
    ⊢ inv X W c S₀ := by
  have hu : bigSep Finset.univ (fun t => (unsent c t : sProp 𝕄)) = iprop((bigSep Finset.univ fun t => dutyTok ER (sndCell c t) 0 false)
      ∗ (bigSep Finset.univ fun t => dutyTok ER (rcvCell (tgt c t) t) 0 false) ∗ (bigSep Finset.univ fun t => landAt c t)) := by
    unfold unsent; rw [bigSep_sep', bigSep_sep']
  have hw : bigSep Finset.univ (fun t => (awaited c t : sProp 𝕄)) = iprop((bigSep Finset.univ fun t => atPos ER (rcvCell c t) 0 ∅ 0)
      ∗ (bigSep Finset.univ fun t => cred (tallyAt (rcvCell c t) () N))) := by
    unfold awaited; rw [bigSep_sep']
  have he : (bigSep Finset.univ fun _ : Fin 124 => (iprop(emp) : sProp 𝕄)) = iprop(emp) := BI.bigSep_emp_const _
  unfold past inv S₀
  dsimp only
  rw [mk_all, mk_none, mk_all, mk_all, mk_none, mk_all, hu, hw, he, recvd_all, pointsTo_empty]
  iintro ⟨⟨Hsp, Hrp, Hst, Hrt, Hrc, Hl⟩, HO, Hx, Hw, Ht, %f, Hf⟩
  ihave Hx := (own_split X c).1 $$ Hx
  icases Hx with ⟨Hxl, Hxr⟩
  isplitl [HO]; · iexact HO
  isplitl [Hst Hrt Hl]
  · isplitl [Hst]; · iexact Hst
    isplitl [Hrt]; · iexact Hrt
    iexact Hl
  isplitr; · iempintro
  isplitl [Hrp Hrc]
  · isplitl [Hrp]; · iexact Hrp
    iexact Hrc
  isplitl [Hsp]; · iexact Hsp
  isplitr; · iempintro
  isplitl [Hxr]; · iexact Hxr
  isplitr; · iempintro
  isplitl [Hf]
  · iexists f
    isplitr
    · ipureintro; intro s hs; rw [Nat.zero_testBit] at hs; exact absurd hs (by decide)
    iexact Hf
  isplitl [Hxl]; · iexact Hxl
  isplitl [Hw]; · iexact Hw
  iexact Ht

/-- At the last state every buffer is whole again and every semaphore at zero. -/
theorem inv_end (f : (cc0_scratch0 : Ref sig .tc).ty.Contents (Elt F)) :
    iprop(inv X W c S₁ ∗ (((c : Thread nD τ).loc cc0_scratch0) ↦[slot0]{fullShare} f) ∗ (bigSep Finset.univ fun k => semVal (kcell (c, some (idleIx k))) 0)
      ∗ semVal (barCell c) 0) ⊢ atEnd X W c := by
  have he : (bigSep Finset.univ fun _ : Fin 124 => (iprop(emp) : sProp 𝕄)) = iprop(emp) := BI.bigSep_emp_const _
  have hs : bigSep Finset.univ (fun t => (semVal (kcell (c, some (sndIx t))) 0 : sProp 𝕄)) = bigSep Finset.univ fun t => semVal (sndCell c t) 0 :=
    bigSep_congr fun t _ => by unfold kcell; rw [own_snd]
  have hr : bigSep Finset.univ (fun t => (semVal (kcell (c, some (rcvIx t))) 0 : sProp 𝕄)) = bigSep Finset.univ fun t => semVal (rcvCell c t) 0 :=
    bigSep_congr fun t _ => by unfold kcell; rw [own_rcv]
  unfold inv S₁ atEnd scratch
  dsimp only
  rw [mk_none, mk_none, mk_none, mk_none, mk_all, mk_all, by_use, hs, hr, owesOf_none]
  iintro ⟨⟨HO, -, -, Hr, Hs, Hlg, Hlo, Hg, ⟨%o, %ho, Ho⟩, Hx, Hw, Ht⟩, H0, Hidle, Hb⟩
  rw [written_all X W c o ho]
  isplitl [H0 Hg Hlg]
  · iapply (scratch_join X c f)
    isplitl [H0]; · iexact H0
    isplitl [Hg]; · iexact Hg
    iexact Hlg
  isplitl [Hs Hr Hidle]
  · isplitl [Hs]; · iexact Hs
    isplitl [Hr] <;> iassumption
  isplitl [Hb]; · iexact Hb
  isplitl [HO]; · iexact HO
  isplitl [Hx Hlo]
  · iapply (own_split X c).2
    isplitl [Hx] <;> iassumption
  isplitl [Hw]; · iexact Hw
  isplitl [Ht]; · iexact Ht
  iexact Ho

/-! ## The body -/

/-- The whole body, from what it starts with to what it ends with. -/
theorem body_run (Q : PUnit → sProp 𝕄) :
    iprop(atStart X W K c ∗ (atEnd X W c -∗ Q ⟨⟩)) ⊢ run c (barrierProg fun v0 h0 v1 h1 => runOps v0 h0 v1 h1 ops) Q := by
  have hprog : (barrierProg (F := F) fun v0 h0 v1 h1 => runOps v0 h0 v1 h1 ops) = (loadTab 0).bind fun v0 =>
      .op (.assume (k0_chk1 v0) (k0_chk1.dec v0)) fun h0 => (loadTab 1).bind fun v1 =>
      .op (.assume (k0_chk2 v1) (k0_chk2.dec v1)) fun h1 =>
      .op (.semSignal (Dev.tc (devL v0 h0.down)) barrier0 ((1 : ℕ) : ℤ)) fun _ =>
      .op (.semSignal (Dev.tc (devR v1 h1.down)) barrier0 ((1 : ℕ) : ℤ)) fun _ =>
      .op (.semWait barrier0 ((2 : ℕ) : ℤ)) fun _ => runOps v0 h0.down v1 h1.down ops := rfl
  rw [hprog]
  unfold atStart rights scratch
  iintro ⟨⟨#Hlev, #He, ⟨Hba, Hsp, Hrp, Hid, Htl, Htr, Hst, Hrt, Hbc, Hrc⟩, ⟨%f, Hf⟩, ⟨%Wt, HO⟩, Hx, Hw, Ht, Ho⟩, Hk⟩
  ihave #Heb := (env_bar X K c c) $$ He
  ihave #Hel := (env_bar X K c (left c)) $$ He
  ihave #Her := (env_bar X K c (right c)) $$ He
  icases Heb with ⟨#Heb, -⟩
  icases Hel with ⟨#Hel, #Hrl⟩
  icases Her with ⟨#Her, #Hrr⟩
  ihave Hf := (scratch_split c f) $$ Hf
  icases Hf with ⟨H0, Hg⟩
  -- the two table words
  ihave Ht := (show (((c : Thread nD τ).loc cc0_stg2_0) ↦{fullShare} tab c : sProp 𝕄) ⊢ tabPts c from .rfl) $$ Ht
  iapply (load_tab c 0) $$ Ht; iintro Ht
  rw [tabDev_zero]
  simp only [run, wp_assume_of _ _ _ _ (d := k0_chk1.dec _) (chk1_word (left c))]
  iapply (load_tab c 1) $$ Ht; iintro Ht
  rw [tabDev_one]
  simp only [run, wp_assume_of _ _ _ _ (d := k0_chk2.dec _) (chk2_word (right c))]
  rw [devL_word, devR_word]
  -- the rows offered to the neighbours
  have hoffer : iprop(env X K c ∗ bigSep Finset.univ fun t : Fin 124 => gPts c (grp t) fullShare f) ⊢ bigSep Finset.univ fun t => (offer c t : sProp 𝕄) :=
    bigSep_with_persistent fun t _ => by
      iintro ⟨#He, Hg⟩
      ihave #H := (env_rcv X K c t) $$ He
      icases H with ⟨-, #H⟩
      unfold offer
      isplitl [Hg]; · iexists f; iexact Hg
      iexact H
  ihave Hg := hoffer $$ [Hg]
  · isplitr; · iexact He
    iexact Hg
  ihave Hg := (Entails.of_eq (by_way fun t => (offer c t : sProp 𝕄))) $$ Hg
  icases Hg with ⟨Hgl, Hgr⟩
  unfold O₀
  iapply (Rounds.wp_signal 𝒱₀ ER (sched X) (c : Thread nD τ) none (dst := (left c : Thread nD τ)) (sem := barrier0) (r := 0) (d := false) (κ := K (left c, none))
      (by rw [duties_bar]; exact Finset.mem_univ _) (amount_bar X (left c) false) () (owesOf (allBits 124) c + tallyAt (barCell (right c)) () 1) rfl) $$ [HO Htl Hgl]
  · isplitr; · iexact Hel
    isplitl [HO]; · iexact HO
    isplitl [Htl]; · iexact Htl
    isplitl [Hgl]
    · rw [payload_bar]; iapply (pay_left c); iexact Hgl
    iexact Hrl
  iintro HO
  iapply (Rounds.wp_signal 𝒱₀ ER (sched X) (c : Thread nD τ) none (dst := (right c : Thread nD τ)) (sem := barrier0) (r := 0) (d := true) (κ := K (right c, none))
      (by rw [duties_bar]; exact Finset.mem_univ _) (amount_bar X (right c) true) () (owesOf (allBits 124) c) rfl) $$ [HO Htr Hgr]
  · isplitr; · iexact Her
    isplitl [HO]; · iexact HO
    isplitl [Htr]; · iexact Htr
    isplitl [Hgr]
    · rw [payload_bar]; iapply (pay_right c); iexact Hgr
    iexact Hrr
  iintro HO
  iapply (Rounds.wp_wait_rest_token 𝒱₀ ER (sched X) (c : Thread nD τ) none (κ := K (c, none))
      (wpE_semWait_eq 𝒱₀ (c : Thread nD τ) none Set.univ) (Set.mem_univ _) () (O := owesOf (allBits 124) c) (W := Wt) (R := 0) (m := 0) (T := ∅)
      (by rw [expect_bar])) $$ [Hbc HO Hba]
  · isplitr; · iexact Heb
    isplitl [Hbc]; · iexact Hbc
    isplitl [HO]; · iexact HO
    isplitr
    · iapply (mayWait_of c (.reg barrier0) (allBits 124) (fun t _ => by rw [kind_bar]; show 1 < _; omega)); iexact Hlev
    iexact Hba
  iintro ⟨HO, Hba, -, Hpay⟩
  ihave Hpay := (Entails.of_eq ((rest_bar X c).trans (pay_all c))) $$ Hpay
  imod (Rounds.cell_close ER (sched X) (Set.mem_univ (K (c, none))) (fun h => h) (R := 0 + 1) (duties_later X (barCell c))) $$ [Hba] with Hz
  · isplitr; · iexact Heb
    iexact Hba
  -- the operations
  have htgt : ∀ t, target (BitVec.ofNat 32 (left c).val) (chk1_word (left c)) (BitVec.ofNat 32 (right c).val) (chk2_word (right c)) t = tgt c t := by
    intro t; unfold target tgt; rw [devL_word, devR_word]
  have hops := run_ops X W K c _ _ _ _ htgt ops S₀ ops_ok Q
  rw [ops_end] at hops
  iapply hops
  isplitr; · iexact Hlev
  isplitr; · iexact He
  isplitr [Hk H0 Hid Hz]
  · iapply (inv_start X W c)
    isplitl [Hsp Hrp Hst Hrt Hrc Hpay]
    · unfold past
      isplitl [Hsp]; · iexact Hsp
      isplitl [Hrp]; · iexact Hrp
      isplitl [Hst]; · iexact Hst
      isplitl [Hrt]; · iexact Hrt
      isplitl [Hrc] <;> iassumption
    isplitl [HO]; · iexists _; iexact HO
    isplitl [Hx]; · iexact Hx
    isplitl [Hw]; · iexact Hw
    isplitl [Ht]; · unfold tabPts; iexact Ht
    iexact Ho
  iintro Hi
  iapply Hk
  iapply (inv_end X W c f)
  isplitl [Hi]; · iexact Hi
  isplitl [H0]; · iexact H0
  isplitl [Hid] <;> iassumption

end Body

end Cert.RingGemm

end
-- ==== Proof.Host.lean ====
/-
# The host's part

The host picks a device's row of the literal table: its neighbours and the devices of its slots.

-/
module

public import proofs.«01_k».proof.Proof.Body
public import proofs.«01_k».proof.Proof.Gen.KernelIdeal.Regions
public import Idealize.ShloMosaic.Lib.StableHlo.RunRead
public import Idealize.ShloMosaic.Lib.DynamicIndex

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The literal table's entries. -/
theorem lit_tab : ∀ (c : Fin 32) (j : Fin 33), lit0t (33 * c.val + j.val) = (BitVec.ofNat 32 (tabDev c j).val : BitVec 32) := by decide +kernel

/-- The host's arithmetic on a device's number. -/
theorem word_row : ∀ c : Dev nD, (select (α := BitVec 32) (cmpi .slt (Host.remui (Host.divui (constantI S_ 32 c.word) (constantI S_ 32 1#32)) (constantI S_ 32 32#32)) (constantI S_ 32 0#32))
      (addi (Host.remui (Host.divui (constantI S_ 32 c.word) (constantI S_ 32 1#32)) (constantI S_ 32 32#32)) (constantI S_ 32 32#32))
      (Host.remui (Host.divui (constantI S_ 32 c.word) (constantI S_ 32 1#32)) (constantI S_ 32 32#32)) (Shape.Idx.first h_S_)) = BitVec.ofNat 32 c.val := by
  decide +kernel

theorem zero_col : select (α := BitVec 32) (cmpi .slt (constantI S_ 32 0#32) (constantI S_ 32 0#32)) (addi (constantI S_ 32 0#32) (constantI S_ 32 33#32))
    (constantI S_ 32 0#32) (Shape.Idx.first h_S_) = 0 := by decide +kernel
theorem word_val : ∀ c : Dev nD, (BitVec.ofNat 32 c.val).toInt = (c.val : ℤ) := by decide +kernel

theorem slice_row (c : Dev nD) : S32x33.Slices (![c.val, 0] : Fin 2 → Nat) S1x33 := by
  revert c; decide

/-- An entry of a row of 33, by its place. -/
def entry (j : Fin 33) : S33.Idx := fun a => match a with | ⟨0, _⟩ => j
theorem entry_eta (i : S33.Idx) : i = entry (i 0) := funext fun a => match a with | ⟨0, _⟩ => rfl
/-- The place in the literal table of an entry of the device's row. -/
theorem place_row : ∀ (c : Dev nD) (j : Fin 33), (extractStridedSlice S1x33 (![c.val, 0] : Fin 2 → Nat) (fun i => (S32x33.rowMajor i).val) (slice_row c) (Shape.reshapeEquiv shapeCasts_S1x33_S33 (entry j))) = 33 * c.val + j.val := by
  decide +kernel

section Host
variable (m : (ℓ : Loc nD τ sig) → Buf (Elt F) ℓ)

/-- The row the host reads, and the column it starts at. -/
theorem v7_eq (c : Dev nD) : (StableHlo.upto (hostOps0 c) (V0 m c) 20 (Proc.devRef .tc main_v7) : (⟨S_, .i32⟩ : BufTy).Contents (Elt F)) (Shape.Idx.first h_S_)
    = (BitVec.ofNat 32 c.val : BitVec 32) := by
  unfold hostOps0
  after_reads_simp
  exact word_row c
theorem v10_eq (c : Dev nD) : (StableHlo.upto (hostOps0 c) (V0 m c) 20 (Proc.devRef .tc main_v10) : (⟨S_, .i32⟩ : BufTy).Contents (Elt F)) (Shape.Idx.first h_S_)
    = (0 : BitVec 32) := by
  unfold hostOps0
  after_reads_simp
  exact zero_col

/-- After the host's operations the table's window reads the device's row. -/
theorem row_eq (c : Dev nD) : Gen.V1 m c main_v12 = tab c := by
  unfold Gen.V1 hostOps0
  after_reads_simp
  rw [Host.dynamicSlice_eq_extractStridedSlice S1x33 _ _ (![c.val, 0] : Fin 2 → Nat) _ (slice_row c)]
  · funext i
    refine Eq.trans ?_ (lit_tab c (i 0))
    show lit0t _ = _
    congr 1
    refine Eq.trans ?_ (place_row c (i 0))
    rw [← entry_eta i]
    rfl
  · intro k
    match k with
    | ⟨0, _⟩ => exact (congrArg BitVec.toInt (v7_eq m c)).trans (word_val c)
    | ⟨1, _⟩ => exact (congrArg BitVec.toInt (v10_eq m c)).trans rfl

end Host

end Cert.RingGemm

end
-- ==== Proof.Region.lean ====
/-
# The kernel's region

The contents the region starts from and leaves, and the body as the region's obligation.
-/
module

public import proofs.«01_k».proof.Proof.Host
public import proofs.«01_k».proof.Proof.Gen.KernelIdeal.Points
public import Idealize.ShloMosaic.Lib.Pipeline.RegionTalk
public import Idealize.ShloMosaic.Lib.Pipeline.RegionArraysS

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Region
variable (m : (ℓ : Loc nD τ sig) → Buf (Elt F) ℓ)

/-! ## The contents -/

/-- A device's block of the left operand, and its block of the right one. -/
def xOf (c : Dev nD) : (cc0_stg0_0 : Ref sig .tc).ty.Contents (Elt F) := m ((c : Thread nD τ).loc main_arg0)
def wOf (c : Dev nD) : (cc0_stg1_0 : Ref sig .tc).ty.Contents (Elt F) := m ((c : Thread nD τ).loc main_arg1)

/-- The body's semaphores. -/
abbrev osem (i : Fin 256) : SemLoc sig := own (some i)

/-- What the body's entry and exit states hold beside the windows. -/
def Xk (c : Dev nD) : sProp 𝕄 := iprop(levAts L lv ∗ (∃ K, env (xOf m) K c) ∗ rights c)
def Φ₀ (c : Dev nD) : sProp 𝕄 := iprop(Xk m c ∗ scratch c ∗ ∃ r, prngReg c r)
def Φ₁ (c : Dev nD) : sProp 𝕄 :=
  iprop(scratch (F := F) c ∗ (bigSep Finset.univ fun i : Fin 256 => semVal (kcell (c, some i)) 0) ∗ semVal (barCell c) 0 ∗ ∃ r, prngReg c r)

/-- The kernel's proof data: the arrays after the host's operations; the windows after the body; what is owed. -/
def pdats (p : Fin 1) (c : Dev nD) : Pipeline.Dat τ (Elt F) Unit ℕ UU ℕ (cfgs p) c where
  A w := Gen.V1 m c (Proc.devRef .tc (Pipeline.arrRef spec0 w))
  after w _ := match w with
    | ⟨0, _⟩ => xOf m c
    | ⟨1, _⟩ => wOf m c
    | ⟨2, _⟩ => tab c
    | ⟨3, _⟩ => outAt (xOf m) (wOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A window that is the whole array, at its place in the array. -/
theorem at_place (z n k : Nat) (hz : z = 0) : z * n + 1 * k = k := by subst hz; omega

theorem before_0 (c : Dev nD) (d) : (pdats m 0 c).before 0 t0_0 d = xOf m c := by
  unfold Pipeline.Dat.before
  rw [if_pos (fetch0_0 t0_0)]
  funext i
  show Gen.V1 m c main_arg0 _ = _
  rw [Gen.V1_of m c main_arg0 (by decide)]
  exact congrArg (m ((c : Thread nD τ).loc main_arg0)) (funext fun a => Fin.ext (at_place _ _ _ rfl))
theorem before_1 (c : Dev nD) (d) : (pdats m 0 c).before 1 t0_0 d = wOf m c := by
  unfold Pipeline.Dat.before
  rw [if_pos (fetch0_1 t0_0)]
  funext i
  show Gen.V1 m c main_arg1 _ = _
  rw [Gen.V1_of m c main_arg1 (by decide)]
  exact congrArg (m ((c : Thread nD τ).loc main_arg1)) (funext fun a => Fin.ext (at_place _ _ _ rfl))
theorem before_2 (c : Dev nD) (d) : (pdats m 0 c).before 2 t0_0 d = tab c := by
  unfold Pipeline.Dat.before
  rw [if_pos (fetch0_2 t0_0)]
  funext i
  show Gen.V1 m c main_v12 _ = _
  rw [row_eq]
  exact congrArg (tab (F := F) c) (funext fun a => Fin.ext (at_place _ _ _ rfl))

/-- What the region leaves in the result array. -/
theorem final_out (c : Dev nD) : (pdats m 0 c).arrAt 3 cfg0.N = outAt (xOf m) (wOf m) c := by
  show (pdats m 0 c).arrAt 3 1 = _
  unfold Pipeline.Dat.arrAt
  dsimp only
  rw [dif_pos (by decide : 0 < cfg0.N), if_pos (flush0_3 _)]
  funext i
  have e : ((cfg0.win 3).blk t0_0).view.emb i = i := funext fun a => Fin.ext (at_place _ _ _ rfl)
  conv_lhs => rw [← e]
  exact View.write_emb_of_mem _ _ (Finset.mem_univ i)

/-! ## The body obligation -/

theorem owed_first (c : Dev nD) : (pdats m 0 c).owed 0 = O₀ c := rfl
theorem owed_last (c : Dev nD) : (pdats m 0 c).owed (Fin.last _) = 0 := rfl

/-- Holding a whole buffer at given contents, as one fact. -/
theorem owns_whole (c : Dev nD) (b : Ref sig .tc) (Y : b.ty.Contents (Elt F)) :
    (owns (c : Thread nD τ) (Memref.whole b) fullShare Y : sProp 𝕄) = (((c : Thread nD τ).loc b) ↦{fullShare} Y) := by
  unfold owns
  simp only [Memref.view_whole, View.read_whole, View.set_whole]
  refine BI.equiv_iff.mp ⟨?_, ?_⟩
  · show iprop(∃ f : Buf (Elt F) ((c : Thread nD τ).loc b), ⌜f = Y⌝ ∗ ((c : Thread nD τ).loc b) ↦{fullShare} f) ⊢ (((c : Thread nD τ).loc b) ↦{fullShare} Y : sProp 𝕄)
    iintro ⟨%f, %hf, H⟩; subst hf; iexact H
  · show (((c : Thread nD τ).loc b) ↦{fullShare} Y : sProp 𝕄) ⊢ iprop(∃ f : Buf (Elt F) ((c : Thread nD τ).loc b), ⌜f = Y⌝ ∗ ((c : Thread nD τ).loc b) ↦{fullShare} f)
    iintro H; iexists Y
    isplitr; · ipureintro; rfl
    iexact H

theorem owes_in (c : Dev nD) : (pdats m 0 c).owesAt () t0_0.castSucc ⊢ (iprop(∃ Wt, owes (c : Thread nD τ) (O₀ c) Wt) : sProp 𝕄) := by
  unfold Pipeline.Dat.owesAt Pipeline.owesWithin
  iintro ⟨%Wt, -, HO⟩; iexists Wt; iexact HO
theorem owes_out (c : Dev nD) : (iprop(∃ Wt, owes (c : Thread nD τ) (0 : CellTallies nD τ sig Unit) Wt) : sProp 𝕄) ⊢ (pdats m 0 c).owesAt () t0_0.succ := by
  unfold Pipeline.Dat.owesAt Pipeline.owesWithin
  iintro ⟨%Wt, HO⟩; iexists Wt
  isplitr; · ipureintro; exact fun _ _ => Or.inl trivial
  iexact HO

/-- What the region calls is the body, on its whole windows. -/
theorem called : (defs₀ (F := F) .tc (cfgs 0).body ((cfgs 0).bodyArgs t0_0 ((cfgs 0).slots t0_0)))
    = barrierProg fun v0 h0 v1 h1 => runOps v0 h0 v1 h1 ops := by
  refine Eq.trans ?_ body_eq
  exact (show _ = bodyAt0 (F := F) t0_0 from rfl).trans (show bodyAt0 (F := F) t0_0 = _ from by
    unfold bodyAt0
    rfl)

/-- The body meets the region's obligation. -/
theorem body_obligation (c : Dev nD) : Pipeline.BodyObligation (pdats m 0 c) defs₀ 𝒱₀ () Set.univ := fun t => by
  obtain rfl := fin_N0 t
  rw [bigSep_W0, bigSep_W0]
  have hc := called (F := F)
  revert hc
  generalize defs₀ (F := F) .tc (cfgs 0).body ((cfgs 0).bodyArgs t0_0 ((cfgs 0).slots t0_0)) = prog
  intro hc
  show iprop(Φ₀ m c ∗ (pdats m 0 c).owesAt () t0_0.castSucc
      ∗ (∃ d, owns (c : Thread nD τ) (Memref.whole cc0_stg0_0) fullShare ((pdats m 0 c).before 0 t0_0 d))
      ∗ (∃ d, owns (c : Thread nD τ) (Memref.whole cc0_stg1_0) fullShare ((pdats m 0 c).before 1 t0_0 d))
      ∗ (∃ d, owns (c : Thread nD τ) (Memref.whole cc0_stg2_0) fullShare ((pdats m 0 c).before 2 t0_0 d))
      ∗ (∃ d, owns (c : Thread nD τ) (Memref.whole cc0_stg3_0) fullShare ((pdats m 0 c).before 3 t0_0 d)))
    ⊢ run c prog
      fun _ => iprop(Φ₁ c ∗ (pdats m 0 c).owesAt () t0_0.succ
        ∗ owns (c : Thread nD τ) (Memref.whole cc0_stg0_0) fullShare (xOf m c) ∗ owns (c : Thread nD τ) (Memref.whole cc0_stg1_0) fullShare (wOf m c)
        ∗ owns (c : Thread nD τ) (Memref.whole cc0_stg2_0) fullShare (tab c)
        ∗ owns (c : Thread nD τ) (Memref.whole cc0_stg3_0) fullShare (outAt (xOf m) (wOf m) c))
  rw [hc]
  simp only [before_0, before_1, before_2, owns_whole]
  unfold Φ₀ Xk Φ₁
  iintro ⟨⟨⟨#Hlev, ⟨%K, #He⟩, Hri⟩, Hs, Hp⟩, HO, ⟨%d0, Hx⟩, ⟨%d1, Hw⟩, ⟨%d2, Ht⟩, ⟨%d3, Ho⟩⟩
  ihave HO := (owes_in m c) $$ HO
  iapply (body_run (xOf m) (wOf m) K c)
  unfold atStart atEnd
  isplitl [Hri Hs HO Hx Hw Ht Ho]
  · isplitr; · iexact Hlev
    isplitr; · iexact He
    isplitl [Hri]; · iexact Hri
    isplitl [Hs]; · iexact Hs
    isplitl [HO]; · iexact HO
    isplitl [Hx]; · iexact Hx
    isplitl [Hw]; · iexact Hw
    isplitl [Ht]; · iexact Ht
    iexists _; iexact Ho
  iintro ⟨Hs, Hq, Hb, HO, Hx, Hw, Ht, Ho⟩
  isplitl [Hs Hq Hb Hp]
  · isplitl [Hs]; · iexact Hs
    isplitl [Hq]; · iexact Hq
    isplitl [Hb]; · iexact Hb
    iexact Hp
  isplitl [HO]; · iapply (owes_out m c); iexact HO
  isplitl [Hx]; · iexact Hx
  isplitl [Hw]; · iexact Hw
  isplitl [Ht]; · iexact Ht
  iexact Ho

end Region

end Cert.RingGemm

end
-- ==== Proof.Entry.lean ====
/-
# The region's entry and exit

From what the launch keeps for a device the body's starting state is made: its semaphores are opened, and those no
transfer uses closed again. The region is then a segment of the program.
-/
module

public import proofs.«01_k».proof.Proof.Region

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Entry
variable (m : (ℓ : Loc nD τ sig) → Buf (Elt F) ℓ)
variable (X : Dev nD → (cc0_stg0_0 : Ref sig .tc).ty.Contents (Elt F)) (K : Dev nD × Option (Fin 256) → ℕ)

/-! ## What the launch keeps for the region -/

/-- Every cell of every device is the schedule's; every barrier is open. -/
def records : sProp 𝕄 :=
  iprop((bigSep Finset.univ fun p => cellInv ER (sched X) (K p) (kcell p)) ∗ bigSep Finset.univ fun d : Dev nD => reached ER (barCell d) 0)
instance records_persistent : BI.Persistent (records X K) := by unfold records; infer_instance

/-- A device's own rights at the launch: its place at its barrier, the right to open each of its other semaphores, the
    duties it pays and the credit it waits with. -/
def holdings (c : Dev nD) : sProp 𝕄 :=
  iprop(atPos ER (barCell c) 0 ∅ 0 ∗ (bigSep Finset.univ fun i : Fin 256 => openTok ER (kcell (c, some i)))
    ∗ dutyTok ER (barCell (left c)) 0 false ∗ dutyTok ER (barCell (right c)) 0 true
    ∗ (bigSep Finset.univ fun t => dutyTok ER (sndCell c t) 0 false) ∗ (bigSep Finset.univ fun t => dutyTok ER (rcvCell (tgt c t) t) 0 false)
    ∗ cred (tallyAt (barCell c) () 2) ∗ (bigSep Finset.univ fun t => cred (tallyAt (rcvCell c t) () N)))
def kept (c : Dev nD) : sProp 𝕄 := iprop((∃ K, records (xOf m) K) ∗ holdings c)

/-! ## Opening the semaphores -/

/-- All of a device's semaphores but its barrier are opened. -/
theorem open_all (c : Dev nD) :
    iprop(records X K ∗ (bigSep Finset.univ fun i : Fin 256 => openTok ER (kcell (c, some i))) ∗ bigSep Finset.univ fun i : Fin 256 => semVal (kcell (c, some i)) 0)
      ⊢ (|={Set.univ}=> iprop((bigSep Finset.univ fun i : Fin 256 => atPos ER (kcell (c, some i)) 0 ∅ 0) ∗ bigSep Finset.univ fun i : Fin 256 => reached ER (kcell (c, some i)) 0) : sProp 𝕄) := by
  have h1 (i : Fin 256) : iprop(records X K ∗ openTok ER (kcell (c, some i)) ∗ semVal (kcell (c, some i)) 0)
      ⊢ (|={Set.univ}=> iprop(atPos ER (kcell (c, some i)) 0 ∅ 0 ∗ reached ER (kcell (c, some i)) 0) : sProp 𝕄) := by
    have h : (bigSep Finset.univ fun p => (cellInv ER (sched X) (K p) (kcell p) : sProp 𝕄)) ⊢ cellInv ER (sched X) (K (c, some i)) (kcell (c, some i)) :=
      bigSep_elim (Finset.mem_univ _)
    unfold records
    iintro ⟨⟨#HI, -⟩, Ho, Hv⟩
    iapply (Rounds.cell_open ER (sched X) (g := kcell (c, some i)) (Set.mem_univ (K (c, some i))))
    isplitr; · iapply h; iexact HI
    isplitl [Ho] <;> iassumption
  have h2 : iprop(records X K ∗ bigSep Finset.univ fun i : Fin 256 => iprop(openTok ER (kcell (c, some i)) ∗ semVal (kcell (c, some i)) 0))
      ⊢ (bigSep Finset.univ fun i : Fin 256 => iprop(|={Set.univ}=> iprop(atPos ER (kcell (c, some i)) 0 ∅ 0 ∗ reached ER (kcell (c, some i)) 0)) : sProp 𝕄) :=
    bigSep_with_persistent fun i _ => h1 i
  have h3 := h2.trans (BI.bigSep_fupd _ _)
  rw [bigSep_sep', bigSep_sep'] at h3
  exact h3

theorem idle_kind (k : Fin 8) : kindOf (own (some (idleIx k))) = .idle := by revert k; decide +kernel

/-- The semaphores that no transfer uses are closed again. -/
theorem close_idle (c : Dev nD) : iprop(records X K ∗ bigSep Finset.univ fun k : Fin 8 => atPos ER (kcell (c, some (idleIx k))) 0 ∅ 0)
    ⊢ (|={Set.univ}=> bigSep Finset.univ fun k : Fin 8 => semVal (kcell (c, some (idleIx k))) 0 : sProp 𝕄) := by
  have h1 (k : Fin 8) : iprop(records X K ∗ atPos ER (kcell (c, some (idleIx k))) 0 ∅ 0)
      ⊢ (|={Set.univ}=> semVal (kcell (c, some (idleIx k))) 0 : sProp 𝕄) := by
    have h : (bigSep Finset.univ fun p => (cellInv ER (sched X) (K p) (kcell p) : sProp 𝕄)) ⊢ cellInv ER (sched X) (K (c, some (idleIx k))) (kcell (c, some (idleIx k))) :=
      bigSep_elim (Finset.mem_univ _)
    unfold records
    iintro ⟨⟨#HI, -⟩, Ha⟩
    iapply (Rounds.cell_close ER (sched X) (g := kcell (c, some (idleIx k))) (Set.mem_univ (K (c, some (idleIx k)))) (fun h => h) (R := 0) (fun r _ => by
      show (if r = 0 ∧ _ then dutiesOf (kindOf (own (some (idleIx k)))) else ∅) = ∅
      rw [idle_kind]; exact ite_self _))
    isplitr; · iapply h; iexact HI
    iexact Ha
  have h2 : iprop(records X K ∗ bigSep Finset.univ fun k : Fin 8 => atPos ER (kcell (c, some (idleIx k))) 0 ∅ 0)
      ⊢ (bigSep Finset.univ fun k : Fin 8 => iprop(|={Set.univ}=> semVal (kcell (c, some (idleIx k))) 0) : sProp 𝕄) :=
    bigSep_with_persistent fun k _ => h1 k
  exact h2.trans (BI.bigSep_fupd _ _)

/-- From what the launch kept and the semaphores at zero, what the body starts with. -/
theorem at_entry (c : Dev nD) : iprop(kept m c ∗ Pipeline.ownSems0 osem c ∗ levAts L lv) ⊢ (|={Set.univ}=> Xk m c : sProp 𝕄) := by
  unfold kept holdings Xk Pipeline.ownSems0
  iintro ⟨⟨⟨%K, #Hr⟩, Hba, Hop, Htl, Htr, Hst, Hrt, Hbc, Hrc⟩, Hv, #Hlev⟩
  imod (open_all (xOf m) K c) $$ [Hop Hv] with ⟨Hat, #Hre⟩
  · isplitr; · iexact Hr
    isplitl [Hop]; · iexact Hop
    iexact Hv
  ihave Hat := (Entails.of_eq (by_use fun i => (atPos ER (kcell (c, some i)) 0 ∅ 0 : sProp 𝕄))) $$ Hat
  icases Hat with ⟨Hs, Hrv, Hid⟩
  imod (close_idle (xOf m) K c) $$ [Hid] with Hid
  · isplitr; · iexact Hr
    iexact Hid
  imodintro
  isplitr; · iexact Hlev
  isplitr
  · iexists K
    unfold records env
    icases Hr with ⟨#H1, #H2⟩
    isplitr; · iexact H1
    isplitr; · iexact H2
    iexact Hre
  have es : (fun t => (atPos ER (kcell (c, some (sndIx t))) 0 ∅ 0 : sProp 𝕄)) = fun t => atPos ER (sndCell c t) 0 ∅ 0 :=
    funext fun t => by unfold kcell; rw [own_snd]
  have er : (fun t => (atPos ER (kcell (c, some (rcvIx t))) 0 ∅ 0 : sProp 𝕄)) = fun t => atPos ER (rcvCell c t) 0 ∅ 0 :=
    funext fun t => by unfold kcell; rw [own_rcv]
  ihave Hs := (Entails.of_eq (congrArg (bigSep Finset.univ) es)) $$ Hs
  ihave Hrv := (Entails.of_eq (congrArg (bigSep Finset.univ) er)) $$ Hrv
  unfold rights
  isplitl [Hba]; · iexact Hba
  isplitl [Hs]; · iexact Hs
  isplitl [Hrv]; · iexact Hrv
  isplitl [Hid]; · iexact Hid
  isplitl [Htl]; · iexact Htl
  isplitl [Htr]; · iexact Htr
  isplitl [Hst]; · iexact Hst
  isplitl [Hrt]; · iexact Hrt
  isplitl [Hbc]; · iexact Hbc
  iexact Hrc

/-! ## The region -/

theorem owed_pos (c : Dev nD) (t : Fin (cfg0.N + 1)) (g : GSem nD τ sig) (i : Unit) (h : 0 < (pdats m 0 c).owed t g i) :
    i ∈ L g ∧ 0 < lv g i := by
  have hb (d : Dev nD) : () ∈ L (barCell d) ∧ 0 < lv (barCell d) () :=
    ⟨by rw [L_tc]; exact Finset.mem_singleton_self _, by unfold lv; rw [kind_bar]; decide⟩
  have ht {d : Dev nD} {n : ℕ} (h : 0 < (tallyAt (barCell d) () n : CellTallies nD τ sig Unit) g i) : g = barCell d := by
    rw [tallyAt_apply] at h
    split at h
    · next hg => exact hg.1
    · exact absurd h (Nat.lt_irrefl 0)
  match t, h with
  | ⟨0, _⟩, h =>
    change 0 < O₀ c g i at h
    unfold O₀ at h
    rw [Pi.add_apply, Finsupp.add_apply, Pi.add_apply, Finsupp.add_apply] at h
    rcases Nat.add_pos_iff_pos_or_pos.mp h with h | h
    · rcases Nat.add_pos_iff_pos_or_pos.mp h with h | h
      · obtain ⟨t, -, rfl⟩ := owesOf_pos h
        exact ⟨by rw [L_tc]; exact Finset.mem_singleton_self _, by unfold lv; rw [kind_rcv]; exact Nat.succ_pos _⟩
      · cases i; rw [ht h]; exact hb _
    · cases i; rw [ht h]; exact hb _
  | ⟨_ + 1, _⟩, h => exact absurd h (Nat.lt_irrefl 0)

theorem kitP : Pipeline.PLaunchFacts (nD := nD) (τ := τ) (pcfgs (F := F)) 0 where
  cellOf_inj a := by rw [Subsingleton.elim a Gen.adm]; exact cellOf_inj
  win := winFacts0
  pre := Pipeline.PreFacts.none _
  block_pos := block_pos0
  arr_whole := arr_whole0
  stage_whole := stage_whole0

/-- A device's buffers when the program ends. -/
def V₂ (c : Dev nD) : Valuation τ sig (Elt F) := Pipeline.afterRegion (pdats m 0 c) (Gen.V1 m c)

theorem own_facts : Pipeline.OwnSemFacts spec0 osem := by decide +kernel

theorem share_full (c : Dev nD) (w : Fin 4) : (pdats m 0 c).share w = fullShare := by
  unfold Pipeline.Dat.share; exact ite_self _
theorem stage_kind : ∀ (w : Fin 4) (s : Fin (cfg0.win w).nbuf), kindOf (.dma ((cfg0.win w).sem s)) = .idle := by decide

/-- The buffers beside the windows' arrays. -/
abbrev others : Finset (DevRef τ sig) := Pipeline.ucRefs τ sig \ Pipeline.arrRefs (τ := τ) spec0

theorem enter (c : Dev nD) : iprop(Pipeline.scopedRest (Pipeline.pin (pcfgs (F := F)) Gen.adm 0).spec c ∗ (∃ r, prngReg c r)
    ∗ StableHlo.held (c.tc : Thread nD τ) ∅ (Gen.V1 m c) ∗ Xk m c) ⊢ (pdats m 0 c).Φ 0 := by
  show _ ⊢ Φ₀ m c
  unfold Φ₀ scratch
  rw [show (Pipeline.scopedRest (Pipeline.pin (pcfgs (F := F)) Gen.adm 0).spec c : sProp 𝕄) = _ from scopedRest0_eq c]
  iintro ⟨Hs, Hp, -, HX⟩
  isplitl [HX]; · iexact HX
  isplitl [Hs]; · iexact Hs
  iexact Hp

theorem leave (c : Dev nD) : (pdats m 0 c).Φ (Fin.last (Pipeline.pin (pcfgs (F := F)) Gen.adm 0).N)
    ⊢ iprop(Pipeline.scopedRest (Pipeline.pin (pcfgs (F := F)) Gen.adm 0).spec c ∗ (∃ r, prngReg c r)
      ∗ StableHlo.held (c.tc : Thread nD τ) ∅ (V₂ m c) ∗ Pipeline.ownSems0 osem c ∗ semVal (barCell c) 0) := by
  show Φ₁ c ⊢ _
  unfold Φ₁ scratch Pipeline.ownSems0 StableHlo.held
  rw [show (Pipeline.scopedRest (Pipeline.pin (pcfgs (F := F)) Gen.adm 0).spec c : sProp 𝕄) = _ from scopedRest0_eq c, BI.bigSep_empty]
  iintro ⟨Hs, Hv, Hb, Hp⟩
  isplitl [Hs]; · iexact Hs
  isplitl [Hp]; · iexact Hp
  isplitr; · iempintro
  isplitl [Hv]; · iexact Hv
  iexact Hb

set_option backward.isDefEq.respectTransparency.types false in
/-- The kernel's region, as a segment of the program. -/
def reg : Pipeline.RegionSeg (pcfgs (F := F)) Gen.adm (pdats m) () defs₀ 𝒱₀ L lv 0 :=
  Pipeline.RegionSeg.ofTalk (pcfgs (F := F)) Gen.adm (pdats m) () defs₀ 𝒱₀ L lv 0 osem own_facts
    ∅ others (Finset.empty_subset _) kitP rfl (fun c => (body_obligation m c).loose)
    (fun _ => 0) O₀ (fun c => (owed_first m c).trans (zero_add _).symm) (owed_last m) (fun _ => rfl) (fun _ w => share_full m _ w)
    (Gen.V1 m) (V₂ m) (fun c b hb => Pipeline.afterRegion_off (pdats m 0 c) (Gen.V1 m c) (Pipeline.ucRefs τ sig) b (Finset.mem_sdiff.mp hb).1)
    (kept m) (fun c => semVal (barCell c) 0) (Xk m) (fun c => semVal (barCell c) 0) (at_entry m) (enter m) (leave m)
    (fun c => by iintro H; imodintro; iexact H)
    (fun _ => 0)
    ⟨fun c w s => by rw [L_tc]; exact Finset.mem_singleton_self _, fun c w s => Nat.le_zero.mpr (show lvOf (kindOf _) = 0 by rw [stage_kind w s]; rfl), fun c t g i h => owed_pos m c t g i h⟩
    (fun _ => iprop(emp))
    (fun c w => rfl) (fun c w => (Pipeline.afterRegion_arr (pdats m 0 c) (Gen.V1 m c) launch0.win.arr_inj w).symm)

/-- The buffers are the windows' arrays and the others. -/
theorem held_parts (c : Dev nD) (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) others V) :=
  StableHlo.held_sub_split (c : Thread nD τ) (Pipeline.arrRefs_sub_ucRefs spec0 (by decide)) V

set_option backward.isDefEq.respectTransparency.types false in
/-- What the region is entered with. -/
theorem reg_pre (c : Dev nD) : iprop(StableHlo.held (c : Thread nD τ) (Pipeline.ucRefs τ sig) (Gen.V1 m c)
      ∗ kept m c ∗ (∃ r, prngReg c r) ∗ ∃ Wt, owes (c : Thread nD τ) (O₀ c) Wt) ⊢ (reg m).pre c := by
  show _ ⊢ iprop(StableHlo.held (c.tc : Thread nD τ) (Pipeline.arrRefs (τ := τ) spec0) (Gen.V1 m c) ∗ (∃ r, prngReg c r)
    ∗ (StableHlo.held (c.tc : Thread nD τ) others (Gen.V1 m c) ∗ emp) ∗ kept m c ∗ ∃ Wt, owes (c : Thread nD τ) (0 + O₀ c) Wt)
  rw [zero_add, held_parts]
  iintro ⟨⟨Ha, Ho⟩, Hk, Hp, HO⟩
  isplitl [Ha]; · iexact Ha
  isplitl [Hp]; · iexact Hp
  isplitl [Ho]
  · isplitl [Ho]; · iexact Ho
    iempintro
  isplitl [Hk]; · iexact Hk
  iexact HO

set_option backward.isDefEq.respectTransparency.types false in
/-- What it is left with. -/
theorem reg_post (c : Dev nD) : (reg m).post c ⊢ iprop((StableHlo.held (c : Thread nD τ) (Pipeline.ucRefs τ sig) (V₂ m c)
      ∗ semVal (barCell c) 0) ∗ ∃ Wt, owes (c : Thread nD τ) (0 : CellTallies nD τ sig Unit) Wt) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ semVal (barCell c) 0 ∗ ∃ Wt, owes (c : Thread nD τ) 0 Wt) ⊢ _
  rw [held_parts]
  iintro ⟨Ha, -, ⟨Ho, -⟩, Hb, HO⟩
  isplitr [HO]
  · isplitl [Ha Ho]
    · isplitl [Ha] <;> iassumption
    iexact Hb
  iexact HO

end Entry

end Cert.RingGemm

end
-- ==== Proof.Launch.lean ====
/-
# The launch and the run

The schedule's cells are made and its rights dealt to the devices; then every execution of the program is the segments',
and ends with the result of `State.lean`.
-/
module

public import proofs.«01_k».proof.Proof.Entry

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring, from the receiving side -/

/-- The device that sends transfer `t` to device `c`. -/
def src (c : Dev nD) (t : Fin 124) : Dev nD := cond (cw t) (left c) (right c)
theorem src_tgt (c : Dev nD) (t : Fin 124) : src (tgt c t) t = c := by
  unfold src tgt; cases cw t
  · exact right_left c
  · exact left_right c
theorem tgt_src (c : Dev nD) (t : Fin 124) : tgt (src c t) t = c := by
  unfold src tgt; cases cw t
  · exact left_right c
  · exact right_left c
/-- A transfer from a device, as the same transfer to its receiver. -/
def around : Dev nD × Fin 124 ≃ Dev nD × Fin 124 :=
  ⟨fun p => (tgt p.1 p.2, p.2), fun p => (src p.1 p.2, p.2), fun p => Prod.ext (src_tgt p.1 p.2) rfl, fun p => Prod.ext (tgt_src p.1 p.2) rfl⟩

/-! ## The cells and the duties' tokens -/

theorem dev_eq {c d : Dev nD} {s s' : SemLoc sig} (h : (((c : Thread nD τ), s) : GSem nD τ sig) = ((d : Thread nD τ), s')) : c = d :=
  congrArg (fun g : GSem nD τ sig => g.1.1) h
theorem own_injective : Function.Injective own := by
  intro i j h
  match i, j, h with
  | none, none, _ => rfl
  | none, some _, h => exact absurd h (by simp [own])
  | some _, none, h => exact absurd h (by simp [own])
  | some i, some j, h =>
    have h' := SemLoc.dma.inj h
    have h'' : i.val + 4 = j.val + 4 := congrArg Fin.val h'
    exact congrArg some (Fin.ext (by omega))

def barEmb : Dev nD ↪ GSem nD τ sig := ⟨fun c => barCell c, fun _ _ h => dev_eq h⟩
def ownEmb : Dev nD × Fin 256 ↪ GSem nD τ sig :=
  ⟨fun p => kcell (p.1, some p.2), fun _ _ h => Prod.ext (dev_eq h) (Option.some.inj (own_injective (congrArg Prod.snd h)))⟩
abbrev barCells : Finset (GSem nD τ sig) := Finset.univ.map barEmb
abbrev ownCells : Finset (GSem nD τ sig) := Finset.univ.map ownEmb

theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact absurd (own_injective (show own (some p.2) = own none from congrArg Prod.snd h)) (by simp)

theorem mem_cells (p : Dev nD × Option (Fin 256)) : kcell p ∈ barCells ∪ ownCells := by
  obtain ⟨c, _ | i⟩ := p
  · exact Finset.mem_union_left _ (Finset.mem_map_of_mem barEmb (Finset.mem_univ c))
  · exact Finset.mem_union_right _ (Finset.mem_map_of_mem ownEmb (Finset.mem_univ (c, i)))

/-- The semaphore and the name of a duty: either neighbour's signal, a transfer's departure, a transfer's arrival. -/
def dutyOf : Bool ⊕ (Fin 124 ⊕ Fin 124) → SemLoc sig × ℕ × Bool
  | .inl b => (.reg barrier0, 0, b)
  | .inr (.inl t) => (.dma (sendSem t), 0, false)
  | .inr (.inr t) => (.dma (recvSem t), 0, false)
theorem dutyOf_injective : Function.Injective dutyOf := by
  have hk {x y : SemLoc sig × ℕ × Bool} (h : x = y) : kindOf x.1 = kindOf y.1 := by rw [h]
  intro a b h
  have h' := hk h
  rcases a with a | a | a <;> rcases b with b | b | b <;> dsimp only [dutyOf] at h' <;>
    simp only [kind_bar, kind_snd, kind_rcv, reduceCtorEq, Kind.snd.injEq, Kind.rcv.injEq] at h'
  · exact congrArg Sum.inl (congrArg (fun x : SemLoc sig × ℕ × Bool => x.2.2) h)
  · rw [h']
  · rw [h']
def dutyToks : Finset (GSem nD τ sig × ℕ × Bool) :=
  Finset.univ.map ⟨fun p : Dev nD × (Bool ⊕ (Fin 124 ⊕ Fin 124)) => (((p.1 : Thread nD τ), (dutyOf p.2).1), (dutyOf p.2).2), fun _ _ h =>
    Prod.ext (dev_eq (congrArg Prod.fst h))
      (dutyOf_injective (Prod.ext (congrArg (fun x : GSem nD τ sig × ℕ × Bool => x.1.2) h) (congrArg (fun x : GSem nD τ sig × ℕ × Bool => x.2) h)))⟩

/-- The tokens of the duties at a device's own semaphores. -/
def toksAt (c : Dev nD) : sProp 𝕄 :=
  iprop((dutyTok ER (barCell c) 0 false ∗ dutyTok ER (barCell c) 0 true)
    ∗ (bigSep Finset.univ fun t => dutyTok ER (sndCell c t) 0 false) ∗ bigSep Finset.univ fun t => dutyTok ER (rcvCell c t) 0 false)
/-- The tokens of the duties a device pays. -/
def toksOf (c : Dev nD) : sProp 𝕄 :=
  iprop((dutyTok ER (barCell (left c)) 0 false ∗ dutyTok ER (barCell (right c)) 0 true)
    ∗ (bigSep Finset.univ fun t => dutyTok ER (sndCell c t) 0 false) ∗ bigSep Finset.univ fun t => dutyTok ER (rcvCell (tgt c t) t) 0 false)

theorem toks_eq : bigSep dutyToks (fun x => (dutyTok ER x.1 x.2.1 x.2.2 : sProp 𝕄)) = bigSep Finset.univ fun c : Dev nD => toksAt c := by
  unfold dutyToks; rw [bigSep_map, bigSep_univ_prod]
  refine bigSep_congr fun c _ => ?_
  rw [bigSep_univ_sum, bigSep_univ_sum, bigSep_univ_eq_bigSepL [false, true] (by decide) (by decide)]
  rfl

/-- Each token goes to the device that pays the duty. -/
theorem toks_around : (bigSep Finset.univ fun c : Dev nD => (toksAt c : sProp 𝕄)) ⊢ bigSep Finset.univ fun c : Dev nD => toksOf c := by
  have hr : (bigSep Finset.univ fun c : Dev nD => bigSep Finset.univ fun t => (dutyTok ER (rcvCell c t) 0 false : sProp 𝕄))
      = bigSep Finset.univ fun c : Dev nD => bigSep Finset.univ fun t => dutyTok ER (rcvCell (tgt c t) t) 0 false := by
    have h := bigSep_univ_equiv around fun p : Dev nD × Fin 124 => (dutyTok ER (rcvCell p.1 p.2) 0 false : sProp 𝕄)
    rw [bigSep_univ_prod, bigSep_univ_prod] at h
    exact h
  unfold toksAt toksOf
  rw [bigSep_sep', bigSep_sep', bigSep_sep', bigSep_sep', bigSep_sep', bigSep_sep', hr,
    bigSep_univ_equiv ring.symm (fun c : Dev nD => (dutyTok ER (barCell c) 0 false : sProp 𝕄)),
    bigSep_univ_equiv ring (fun c : Dev nD => (dutyTok ER (barCell c) 0 true : sProp 𝕄))]
  exact BI.Entails.refl _

/-! ## The credit at the launch -/

theorem owesOf_bar (M : Nat) (d c : Dev nD) : owesOf M d (barCell c) () = 0 := by
  by_contra h
  obtain ⟨t, -, h'⟩ := owesOf_pos (Nat.pos_of_ne_zero h)
  have := congrArg (fun g : GSem nD τ sig => kindOf g.2) h'
  dsimp only at this
  rw [kind_bar, kind_rcv] at this
  exact Kind.noConfusion this

theorem tally_bar (e c : Dev nD) : (tallyAt (barCell e) () 1 : CellTallies nD τ sig Unit) (barCell c) () = if c = e then 1 else 0 := by
  rw [tallyAt_apply]
  exact if_congr ⟨fun h => dev_eq h.1, fun h => ⟨by rw [h], rfl⟩⟩ rfl rfl

theorem owed_bar (d c : Dev nD) : O₀ d (barCell c) () = (if d = left c then 1 else 0) + (if d = right c then 1 else 0) := by
  unfold O₀
  rw [Pi.add_apply, Finsupp.add_apply, Pi.add_apply, Finsupp.add_apply, owesOf_bar, tally_bar, tally_bar, Nat.zero_add]
  congr 1
  · exact if_congr ⟨fun h => by rw [h, left_right], fun h => by rw [h, right_left]⟩ rfl rfl
  · exact if_congr ⟨fun h => by rw [h, right_left], fun h => by rw [h, left_right]⟩ rfl rfl

theorem all_bit (t : Fin 124) : (allBits 124).testBit t.val = true := by
  unfold allBits; rw [Nat.testBit_two_pow_sub_one]; exact decide_eq_true t.isLt

theorem rcv_ne_bar (c d : Dev nD) (t : Fin 124) : rcvCell c t ≠ barCell d := fun h => by
  have := congrArg (fun g : GSem nD τ sig => kindOf g.2) h
  dsimp only at this
  rw [kind_bar, kind_rcv] at this
  exact Kind.noConfusion this

theorem recv_inj {t u : Fin 124} (h : (SemLoc.dma (recvSem t) : SemLoc sig) = .dma (recvSem u)) : t = u := by
  have := congrArg kindOf h
  rw [kind_rcv, kind_rcv] at this
  exact Kind.rcv.inj this

theorem owed_rcv (d c : Dev nD) (t : Fin 124) : O₀ d (rcvCell c t) () = if d = src c t then N else 0 := by
  have hb (e : Dev nD) : (tallyAt (barCell e) () 1 : CellTallies nD τ sig Unit) (rcvCell c t) () = 0 := by
    rw [tallyAt_apply]; exact if_neg fun h => rcv_ne_bar c e t h.1
  unfold O₀
  rw [Pi.add_apply, Finsupp.add_apply, Pi.add_apply, Finsupp.add_apply, hb, hb, Nat.add_zero]
  unfold owesOf
  rw [Finset.sum_apply, Finsupp.finset_sum_apply, Finset.sum_eq_single t]
  · rw [if_pos (all_bit t), tallyAt_apply]
    exact if_congr ⟨fun h => by rw [dev_eq h.1, src_tgt], fun h => ⟨by rw [h, tgt_src], rfl⟩⟩ rfl rfl
  · intro u _ hu
    rw [if_pos (all_bit u), tallyAt_apply]
    exact if_neg fun h => hu (recv_inj (congrArg Prod.snd h.1)).symm
  · exact fun h => absurd (Finset.mem_univ t) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1,
    if_pos (Finset.mem_univ _), if_pos (Finset.mem_univ _)]

theorem launch_rcv (c : Dev nD) (t : Fin 124) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same, Finset.sum_congr rfl fun d _ => owed_rcv d c t,
    Finset.sum_ite_eq' Finset.univ (src c t) fun _ => N, if_pos (Finset.mem_univ _)]

def recvEmb : Fin 124 ↪ SemLoc sig := ⟨fun t => .dma (recvSem t), fun _ _ h => recv_inj h⟩

/-- The credit a device waits with. -/
theorem creds (c : Dev nD) : (Pipeline.launchCred O₀ c : sProp 𝕄)
    ⊢ iprop(cred (tallyAt (barCell c) () 2) ∗ bigSep Finset.univ fun t => cred (tallyAt (rcvCell c t) () N)) := by
  unfold Pipeline.launchCred
  rw [bigSep_univ_at _ (SemLoc.reg barrier0), launch_bar]
  refine sep_mono_right ?_
  have hs : (Finset.univ.map recvEmb : Finset (SemLoc sig)) ⊆ Finset.univ.erase (SemLoc.reg barrier0) := fun s h => by
    obtain ⟨t, -, rfl⟩ := Finset.mem_map.mp h
    exact Finset.mem_erase.mpr ⟨by show SemLoc.dma _ ≠ SemLoc.reg _; simp, Finset.mem_univ _⟩
  have he : (bigSep (Finset.univ.map recvEmb) fun sm : SemLoc sig => (cred (tallyOn ((c : Thread nD τ), sm) (launchCredit (Pipeline.owing O₀) 0 ((c : Thread nD τ), sm))) : sProp 𝕄))
      = bigSep Finset.univ fun t => cred (tallyAt (rcvCell c t) () N) := by
    rw [bigSep_map]
    exact bigSep_congr fun t _ => congrArg cred (launch_rcv c t)
  rw [← he]
  exact bigSep_subset hs

/-! ## The launch -/

/-- The launch's element of the ghost state. -/
def u₀ : UU :=
  (initOf (Pipeline.cells (Pipeline.pin (pcfgs (F := F)) Gen.adm) cellOf_inj) (Pipeline.launchToks (Pipeline.pin (pcfgs (F := F)) Gen.adm) cellOf_inj),
    launchOf barCells ownCells dutyToks)

/-- A resource, all of it on device 0. -/
def onFirst (P : sProp 𝕄) (c : Dev nD) : sProp 𝕄 := if c = 0 then P else iprop(emp)
theorem bigSep_onFirst (P : sProp 𝕄) : bigSep Finset.univ (onFirst P) = P := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def G : Dev nD → sProp 𝕄 := onFirst (BI.own (ER (launchOf barCells ownCells dutyToks)))

theorem unscoped_eq : ∀ sm : SemLoc sig, sm.isScoped .tc = false → sm = .reg barrier0 := by decide +kernel
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, BI.bigSep_singleton]

section Launch
variable (m : (ℓ : Loc nD τ sig) → Buf (Elt F) ℓ) (ρ : Dev nD → PrngReg)

/-- What the launch leaves a device with, beside its buffers. -/
def E₀ (c : Dev nD) : sProp 𝕄 := iprop(kept m c ∗ (∃ r, prngReg c r) ∗ ∃ Wt, owes (c : Thread nD τ) (O₀ c) Wt)
abbrev E (_ : Fin 2) : Dev nD → sProp 𝕄 := E₀ m

/-- A device's own part of it. -/
def linear (c : Dev nD) : sProp 𝕄 :=
  iprop(atPos ER (barCell c) 0 ∅ 0 ∗ (bigSep Finset.univ fun i : Fin 256 => openTok ER (kcell (c, some i))) ∗ toksOf c)
def bundle (c : Dev nD) : sProp 𝕄 :=
  iprop((cred (tallyAt (barCell c) () 2) ∗ bigSep Finset.univ fun t => cred (tallyAt (rcvCell c t) () N))
    ∗ (∃ r, prngReg c r) ∗ ∃ Wt, owes (c : Thread nD τ) (O₀ c) Wt)

theorem E₀_intro (X : Dev nD → (cc0_stg0_0 : Ref sig .tc).ty.Contents (Elt F)) (hX : X = xOf m) (K : Dev nD × Option (Fin 256) → ℕ) (c : Dev nD) :
    iprop(records X K ∗ (linear c ∗ bundle c)) ⊢ E₀ m c := by
  subst hX
  unfold linear toksOf bundle E₀ kept holdings
  iintro ⟨#HR, ⟨Ha, Ho, ⟨Htl, Htr⟩, Hs, Hr⟩, ⟨Hb, Hc⟩, Hp, HO⟩
  isplitr [Hp HO]
  · isplitr; · iexists K; iexact HR
    isplitl [Ha]; · iexact Ha
    isplitl [Ho]; · iexact Ho
    isplitl [Htl]; · iexact Htl
    isplitl [Htr]; · iexact Htr
    isplitl [Hs]; · iexact Hs
    isplitl [Hr]; · iexact Hr
    isplitl [Hb]; · iexact Hb
    iexact Hc
  isplitl [Hp]; · iexact Hp
  iexact HO

/-- The records, from the invariants as the launch allocates them. -/
theorem records_intro (X : Dev nD → (cc0_stg0_0 : Ref sig .tc).ty.Contents (Elt F)) (κ : GSem nD τ sig → ℕ) :
    iprop((bigSep (barCells ∪ ownCells) fun g => cellInv ER (sched X) (κ g) g) ∗ bigSep barCells fun g => reached ER g 0)
      ⊢ records X fun p => κ (kcell p) := by
  have h1 (p : Dev nD × Option (Fin 256)) : iprop((bigSep (barCells ∪ ownCells) fun g => cellInv ER (sched X) (κ g) g) ∗ (BI.emp : sProp 𝕄))
      ⊢ cellInv ER (sched X) (κ (kcell p)) (kcell p) := by
    have h : (bigSep (barCells ∪ ownCells) fun g => (cellInv ER (sched X) (κ g) g : sProp 𝕄)) ⊢ cellInv ER (sched X) (κ (kcell p)) (kcell p) :=
      bigSep_elim (mem_cells p)
    iintro ⟨H, -⟩; iapply h; iexact H
  have h2 : iprop((bigSep (barCells ∪ ownCells) fun g => cellInv ER (sched X) (κ g) g) ∗ bigSep Finset.univ fun _ : Dev nD × Option (Fin 256) => (BI.emp : sProp 𝕄))
      ⊢ bigSep Finset.univ fun p => cellInv ER (sched X) (κ (kcell p)) (kcell p) := bigSep_with_persistent fun p _ => h1 p
  rw [BI.bigSep_emp_const] at h2
  unfold records
  rw [bigSep_map]
  iintro ⟨HI, HR⟩
  isplitl [HI]
  · iapply h2
    isplitl [HI]; · iexact HI
    iempintro
  iexact HR

/-- The launch: every semaphore's cell is made one of the schedule's, and every right dealt. -/
theorem deal : iprop((bigSep Finset.univ fun c : Dev nD => iprop(unscopedSems0 c ∗ owes (c : Thread nD τ) (O₀ c) ∅ ∗ Pipeline.launchCred O₀ c ∗ prngReg c (ρ c) ∗ G c))
      ∗ levAts L lv) ⊢ (|={Set.univ}=> bigSep Finset.univ (E₀ m) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle c ∗ (semVal (barCell c) 0 ∗ G c)) : sProp 𝕄) := by
    rw [unscopedSems0_eq]
    unfold bundle
    iintro ⟨Hus, HO, Hcr, Hp, HG⟩
    ihave Hc := (creds (F := F) c) $$ Hcr
    isplitl [HO Hc Hp]
    · isplitl [Hc]; · iexact Hc
      isplitl [Hp]; · iexists (ρ c); iexact Hp
      iexists ∅; iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun i : Fin 256 => openTok ER (kcell (c, some i))) :=
    Entails.of_eq (by rw [bigSep_map, bigSep_univ_prod]; rfl)
  iintro ⟨H, -⟩
  ihave H := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(bundle c ∗ (semVal (barCell c) 0 ∗ G c)) : sProp 𝕄) from bigSep_mono fun c _ => hcore c) $$ H
  ihave H := (Entails.of_eq (bigSep_sep' _ _ _)) $$ H; icases H with ⟨HB, H⟩
  ihave H := (Entails.of_eq (bigSep_sep' _ _ _)) $$ H; icases H with ⟨Hv, HG⟩
  ihave Hu := (show bigSep Finset.univ (G (F := F)) ⊢ BI.own (ER (launchOf barCells ownCells dutyToks)) from
    Entails.of_eq (bigSep_onFirst (F := F) (BI.own (ER (launchOf barCells ownCells dutyToks))))) $$ HG
  imod (Rounds.fund_launch ER (sched (xOf m)) cells_disjoint (fun g _ h => h) dutyToks) $$ [Hv Hu] with ⟨%κ, -, #Hinv, #Hr, Hat, Hopen, Htok⟩
  · isplitl [Hv]
    · iapply hv $$ Hv
    · iexact Hu
  imodintro
  iapply (bigSep_with_persistent (R := records (xOf m) fun p => κ (kcell p)) (Φ := fun c => iprop(linear c ∗ bundle c)) fun c _ => E₀_intro m (xOf m) rfl _ c)
  isplitr
  · iapply (records_intro (xOf m) κ)
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (toks_around (F := F))
    iapply (Entails.of_eq (toks_eq (F := F))) $$ Htok
  · iexact HB

/-! ## The run -/

theorem V₂_arg0 (c : Dev nD) : V₂ m c main_arg0 = m ((c : Thread nD τ).loc main_arg0) :=
  (Pipeline.afterRegion_keeps (pdats m 0 c) (Gen.V1 m c) launch0.win.arr_inj (fun _ => rfl) main_arg0 (by decide)).trans
    ((Gen.V1_of m c main_arg0 (by decide)).trans rfl)
theorem V₂_arg1 (c : Dev nD) : V₂ m c main_arg1 = m ((c : Thread nD τ).loc main_arg1) :=
  (Pipeline.afterRegion_keeps (pdats m 0 c) (Gen.V1 m c) launch0.win.arr_inj (fun _ => rfl) main_arg1 (by decide)).trans
    ((Gen.V1_of m c main_arg1 (by decide)).trans rfl)
theorem V₂_out (c : Dev nD) : V₂ m c main_v13 = outAt (xOf m) (wOf m) c :=
  (Pipeline.afterRegion_arr (pdats m 0 c) (Gen.V1 m c) launch0.win.arr_inj 3).trans (final_out m c)

theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

set_option backward.isDefEq.respectTransparency.types false in
/-- The run: from any memory with every counter at zero, every weakly fair execution terminates, and in every final state the
    arguments are unchanged, each device's result is its columns of the product, and every counter is zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v13) = outAt (xOf m) (wOf m) c) ∧ r.2.sem = fun _ => 0) := by
  refine Pipeline.θ_run_regions_kit_dev_sems (pcfgs (F := F)) Gen.adm (pdats m) () cellOf_inj EP defs₀ 𝒱₀ L lv m ρ main
    (Gen.segs m 𝒱₀ L lv (E m) () (pdats m) (reg m))
    (fun c Q => by
      rewrite [main_chain c, Pipeline.Seg.run_eq_chain,
        show (Gen.segs m 𝒱₀ L lv (E m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    O₀ L_of_ne G u₀
    (by
      unfold u₀ G
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) (Pipeline.ucRefs τ sig) (V0 m c) ∗ E₀ m c))
    (Tₙ := fun c => iprop(StableHlo.held (c : Thread nD τ) (Pipeline.ucRefs τ sig) (V₂ m c) ∗ semVal (barCell c) 0))
    (hch := fun c => ⟨.rfl, reg_pre m c, reg_post m c⟩)
    (hinit := ?_)
    (QY := fun c s => (s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v13) = outAt (xOf m) (wOf m) c) ∧ s.sem (barCell c) = 0)
    (hfin := fun c s' => ?_)
    (hQ := fun s h hs => ⟨fun c => (h c).1, sem_eq_zero hs fun c sm hsm => by
        obtain rfl := unscoped_eq sm hsm
        exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V₂ m c) s') $$ [Hh HSI]
    · isplitl [Hh] <;> iassumption
    icases Hr with ⟨%h, HSI⟩
    imodintro
    isplitr
    · ipureintro
      exact ⟨⟨(h (Proc.devRef .tc main_arg0) (mem_uc main_arg0 (by decide))).trans (V₂_arg0 m c),
        (h (Proc.devRef .tc main_arg1) (mem_uc main_arg1 (by decide))).trans (V₂_arg1 m c),
        (h (Proc.devRef .tc main_v13) (mem_uc main_v13 (by decide))).trans (V₂_out m c)⟩, by simpa using hb⟩
    iexact HSI

end Launch

end Cert.RingGemm

end
-- ==== Proof.Values.lean ====
/-
# The values of the output, over the extended reals

Every strip of the output is the rectified product of one device's rows with this device's columns (`strip_ideal`);
laid out over the devices, the output is the rectified product of the whole operands (`outAt_block`).
-/
module

public import proofs.«01_k».proof.Proof.State
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

/-- The zero that both programs compare with. -/
abbrev zeroI : EReal := Ideal.ofBits .f32 0x00000000#32
/-- One element of the result: the product of a row and a column, where it is positive, and zero elsewhere. -/
def elemOf (x w : Fin 4096 → EReal) : EReal := max (∑ k, x k * w k) zeroI

/-! ## The products read at an element -/

/-- A rectified product of any number of rows, read at an element. -/
theorem product_apply {M : Nat} (A : FVec Ideal ⟨2, ![M, 4096]⟩ .bf16) (B : FVec Ideal S4096x256 .bf16) (r : Fin M) (j : Fin 256) :
    maximumf (matmul (DotDims.plain M 4096 256) none A (shapeCast S4096x256 B shapeCasts_S4096x256_S4096x256)
      (constant ⟨2, ![M, 256]⟩ .f32 0x00000000#32)) (broadcast ⟨2, ![M, 256]⟩ (Scalar.ofBits .f32 0x00000000#32)) (ix2 r j)
      = elemOf (fun k => A (ix2 r k)) (fun k => B (ix2 k j)) := by
  rw [shapeCast_self]
  show max (FloatOps.matmul (DotDims.plain M 4096 256) none A B (constant ⟨2, ![M, 256]⟩ .f32 0x00000000#32) (ix2 r j)) zeroI = _
  rw [Ideal.matmul_plain_apply]
  show max (zeroI + _) zeroI = _
  unfold elemOf
  rw [show zeroI = 0 from Ideal.ofBits_zero_f32, zero_add]

/-- The product of the own rows. -/
theorem pay2_apply (A : FVec Ideal S128x4096 .bf16) (B : FVec Ideal S4096x256 .bf16) (r : Fin 128) (j : Fin 256) :
    k0_pay2 (F := Ideal) A B (ix2 r j) = elemOf (fun k => A (ix2 r k)) (fun k => B (ix2 k j)) := product_apply A B r j
/-- The product of a batch of four. -/
theorem pay3_apply (A : FVec Ideal S512x4096 .bf16) (B : FVec Ideal S4096x256 .bf16) (r : Fin 512) (j : Fin 256) :
    k0_pay3 (F := Ideal) A B (ix2 r j) = elemOf (fun k => A (ix2 r k)) (fun k => B (ix2 k j)) := product_apply A B r j
/-- The product of the last batch. -/
theorem pay38_apply (A : FVec Ideal S384x4096 .bf16) (B : FVec Ideal S4096x256 .bf16) (r : Fin 384) (j : Fin 256) :
    k0_pay38 (F := Ideal) A B (ix2 r j) = elemOf (fun k => A (ix2 r k)) (fun k => B (ix2 k j)) := product_apply A B r j

/-! ## The strips -/

section Strips
variable (X : Dev nD → (cc0_stg0_0 : Ref sig .tc).ty.Contents (Elt Ideal)) (W : Dev nD → (cc0_stg1_0 : Ref sig .tc).ty.Contents (Elt Ideal))

/-- An element of a row of the gathered operand, by the slot and the row within it. -/
theorem gath_at (c : Dev nD) (s : Fin 32) (r : Fin 128) (i : S4096x4096.Idx) (k : Fin 4096) (h0 : (i 0).val = 128 * s.val + r.val) (h1 : (i 1).val = k.val) :
    gath X c i = X (org c s) (ix r k) := by
  have e : slotRow i = s := Fin.ext (by show (i 0).val / 128 = s.val; omega)
  have e0 : (⟨(i 0).val % 128, Nat.mod_lt _ (by decide)⟩ : Fin 128) = r := Fin.ext (by show (i 0).val % 128 = r.val; omega)
  have e1 : i 1 = k := Fin.ext h1
  unfold gath
  rw [e, e0, e1]

/-- The columns, as they are loaded, are this device's block. -/
theorem cols_at (c : Dev nD) (k : Fin 4096) (j : Fin 256) : cols W c (ix2 k j) = W c (ix2 k j) := by
  show W c _ = W c _
  refine congrArg (W c) (funext fun a => Fin.ext ?_)
  fin_cases a
  · show 0 + 1 * k.val = k.val; omega
  · show 0 + 1 * j.val = j.val; omega
/-- The own rows, as they are loaded. -/
theorem rows1_at (c : Dev nD) (r : Fin 128) (k : Fin 4096) : rows1 X c (ix2 r k) = X c (ix r k) := by
  show X c _ = X c _
  refine congrArg (X c) (funext fun a => Fin.ext ?_)
  fin_cases a
  · show 0 + 1 * r.val = r.val; omega
  · show 0 + 1 * k.val = k.val; omega
/-- The rows of a batch of four, as they are loaded, by slot. -/
theorem rows4_at (c : Dev nD) (lo : Fin 29) (s : Fin 32) (r : Fin 128) (R : Fin 512) (k : Fin 4096) (h : 128 * lo.val + R.val = 128 * s.val + r.val) :
    rows4 X c lo (ix2 R k) = X (org c s) (ix r k) :=
  gath_at X c s r _ k (by show 128 * lo.val + 1 * R.val = _; omega) (by show 0 + 1 * k.val = _; omega)
/-- The rows of the last batch, as they are loaded, by slot. -/
theorem rows3_at (c : Dev nD) (s : Fin 32) (r : Fin 128) (R : Fin 384) (k : Fin 4096) (h : 2176 + R.val = 128 * s.val + r.val) :
    rows3 X c (ix2 R k) = X (org c s) (ix r k) :=
  gath_at X c s r _ k (by show 2176 + 1 * R.val = _; omega) (by show 0 + 1 * k.val = _; omega)

/-- Where a slot of a batch of four stands in its batch. -/
theorem batch_place (s : Fin 32) (h : inFour s = true) :
    (batchLo s).val + (Fin.ofNat 4 (s.val - (batchLo s).val)).val = s.val := by revert s; decide +kernel
/-- Where a slot of the last batch stands in it. -/
theorem last_place (s : Fin 32) (h0 : s.val ≠ 0) (h : inFour s = false) : 17 + (Fin.ofNat 3 (s.val - 17)).val = s.val := by
  revert s; decide +kernel

/-- The strip of a slot is the rectified product of the rows of the slot's device with this device's columns. -/
theorem strip_ideal (c : Dev nD) (s : Fin 32) (r : Fin 128) (j : Fin 256) :
    strip X W c s (ix2 r j) = elemOf (fun k => X (org c s) (ix r k)) (fun k => W c (ix2 k j)) := by
  have hr : r.val < 128 := r.isLt
  unfold strip
  split_ifs with h0
  · have hs : s = 0 := Fin.ext h0
    subst hs
    refine (pay2_apply _ _ r j).trans ?_
    rw [org_zero]
    refine congrArg₂ elemOf (funext fun k => ?_) (funext fun k => cols_at W c k j)
    refine Eq.trans ?_ (rows1_at X c r k)
    exact congrFun (shapeCast_self (rows1 X c) shapeCasts_S128x4096_S128x4096) (ix2 r k)
  · cases h : inFour s with
    | true =>
      have hp := batch_place s h
      have hk : (Fin.ofNat 4 (s.val - (batchLo s).val)).val < 4 := (Fin.ofNat 4 (s.val - (batchLo s).val)).isLt
      show strip4 X W c (batchLo s) (Fin.ofNat 4 (s.val - (batchLo s).val)) (ix2 r j) = _
      generalize Fin.ofNat 4 (s.val - (batchLo s).val) = k at hp hk ⊢
      unfold strip4
      refine (extractStridedSlice_apply _ _ _ (ix2 r j) (ix2 (⟨128 * k.val + r.val, by omega⟩ : Fin 512) j) fun a => ?_).trans ?_
      · fin_cases a
        · rfl
        · show j.val = 0 + j.val; omega
      refine (pay3_apply _ _ _ j).trans ?_
      refine congrArg₂ elemOf (funext fun k' => ?_) (funext fun k' => cols_at W c k' j)
      exact rows4_at X c (batchLo s) s r _ k' (by show 128 * (batchLo s).val + (128 * k.val + r.val) = _; omega)
    | false =>
      have hp := last_place s h0 h
      have hk : (Fin.ofNat 3 (s.val - 17)).val < 3 := (Fin.ofNat 3 (s.val - 17)).isLt
      show strip3 X W c (Fin.ofNat 3 (s.val - 17)) (ix2 r j) = _
      generalize Fin.ofNat 3 (s.val - 17) = k at hp hk ⊢
      unfold strip3
      refine (extractStridedSlice_apply _ _ _ (ix2 r j) (ix2 (⟨128 * k.val + r.val, by omega⟩ : Fin 384) j) fun a => ?_).trans ?_
      · fin_cases a
        · rfl
        · show j.val = 0 + j.val; omega
      refine (pay38_apply _ _ _ j).trans ?_
      refine congrArg₂ elemOf (funext fun k' => ?_) (funext fun k' => cols_at W c k' j)
      exact rows3_at X c s r _ k' (by show 2176 + (128 * k.val + r.val) = _; omega)

/-- The output read at an element: the row of the whole left operand with the column of this device's block. -/
theorem outAt_ideal (c : Dev nD) (R : Fin 4096) (j : Fin 256) :
    outAt X W c (ix2 R j) = elemOf (fun k => X (outDev (ix2 R j)) (ix ⟨R.val % 128, Nat.mod_lt _ (by decide)⟩ k)) (fun k => W c (ix2 k j)) := by
  have e : outIn (ix2 R j) = ix2 (⟨R.val % 128, Nat.mod_lt _ (by decide)⟩ : Fin 128) j := by
    funext a; apply Fin.ext; fin_cases a <;> rfl
  unfold outAt
  rw [e, strip_ideal, org_slotOf]

end Strips

/-! ## The whole result -/

section Whole
variable (A : FVec Ideal ⟨2, ![4096, 4096]⟩ .bf16) (B : FVec Ideal ⟨2, ![4096, 8192]⟩ .bf16)

/-- The reference's result: the product in the accumulator's type, the change of type and back, and the maximum with zero. -/
def refOut : FVec Ideal ⟨2, ![4096, 8192]⟩ .f32 :=
  maximumf (extf .f32 (truncf .bf16 (Host.dotGeneral Cert.ReferenceIdeal.dot_S4096x4096_S4096x8192_S4096x8192_1_0_0_1_n_n none A B)
    Cert.ReferenceIdeal.Facts₀.bitsLt_bf16_f32) Cert.ReferenceIdeal.Facts₀.bitsLt_bf16_f32)
    (broadcastInDim Cert.ReferenceIdeal.S4096x8192 ![] Cert.ReferenceIdeal.Facts₀.bcast_S_S4096x8192 (constant Cert.ReferenceIdeal.S_ .f32 0x00000000#32))

/-- The reference's result read at an element. -/
theorem refOut_apply (R : Fin 4096) (J : Fin 8192) : refOut A B (ix2 R J) = elemOf (fun k => A (ix2 R k)) (fun k => B (ix2 k J)) := by
  show max (Host.dotGeneral (DotDims.plain 4096 4096 8192) none A B (ix2 R J)) zeroI = _
  rw [Idealize.ShloMosaic.StackMember.dotGeneral_plain_apply]
  rfl

/-- Each device's output is its block of the reference's result. -/
theorem outAt_block (X : Dev nD → (cc0_stg0_0 : Ref sig .tc).ty.Contents (Elt Ideal)) (W : Dev nD → (cc0_stg1_0 : Ref sig .tc).ty.Contents (Elt Ideal))
    (hX : ∀ d, X d = Layout.block ⟨2, ![128, 4096]⟩ ⟨2, ![4096, 4096]⟩ 0 32 d A)
    (hW : ∀ d, W d = Layout.block ⟨2, ![4096, 256]⟩ ⟨2, ![4096, 8192]⟩ 1 32 d B) (c : Dev nD) :
    outAt X W c = Layout.block ⟨2, ![4096, 256]⟩ ⟨2, ![4096, 8192]⟩ 1 32 c (refOut A B) := by
  funext i
  obtain ⟨R, j, rfl⟩ : ∃ (R : Fin 4096) (j : Fin 256), i = ix2 R j := ⟨i 0, i 1, eq_ix2 i⟩
  have hc : c.val < 32 := c.isLt
  have hj : j.val < 256 := j.isLt
  have hR : R.val < 4096 := R.isLt
  rw [outAt_ideal, Layout.block_apply]
  have e : (by decide : Layout.Tiles ⟨2, ![4096, 256]⟩ ⟨2, ![4096, 8192]⟩ 1 32).idx c (ix2 R j) = ix2 R (⟨c.val * 256 + j.val, by omega⟩ : Fin 8192) := by
    funext a; apply Fin.ext; fin_cases a <;> rfl
  rw [e, refOut_apply, hW]
  refine congrArg₂ elemOf (funext fun k => ?_) (funext fun k => ?_)
  · rw [hX, Layout.block_apply]
    refine congrArg A (funext fun a => Fin.ext ?_)
    fin_cases a
    · show R.val / 128 * 128 + R.val % 128 = R.val; omega
    · rfl
  · rw [Layout.block_apply]
    refine congrArg B (funext fun a => Fin.ext ?_)
    fin_cases a <;> rfl

end Whole

end Cert.RingGemm

end
-- ==== Proof.lean ====
/-
# The kernel's claims

The run of the kernel is `Cert.RingGemm.run_main`, over any float values; its values over the extended reals are
`Cert.RingGemm.outAt_block`. Here they are put together with the reference's run into the five claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

section Same

set_option maxHeartbeats 8000000
set_option maxRecDepth 65536

local instance : Cert.Kernel.Facts := Cert.Kernel.Gen.facts
local instance : Cert.KernelIdeal.Facts := Cert.KernelIdeal.Gen.facts

/-- The two kernels are one text: their bodies, -/
theorem body_same : Cert.Kernel.cc0_body (F := Bits) = Cert.KernelIdeal.cc0_body (F := Bits) := rfl

/-- their body tables, -/
theorem defs₀_same : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun ℓ => funext fun a => ?_)
  have h : ℓ = (0 : Fin 1) := Subsingleton.elim (α := Fin 1) _ _
  subst h
  obtain ⟨t, s⟩ := a
  show Cert.Kernel.cc0_body (F := Bits) _ _ _ _ _ _ _ _ _ _ _ _ _ _ = Cert.KernelIdeal.cc0_body (F := Bits) _ _ _ _ _ _ _ _ _ _ _ _ _ _
  rw [body_same]

/-- their tables with the pipeline's labels, -/
theorem defs_same : Cert.Kernel.defs (F := Bits) = Cert.KernelIdeal.defs (F := Bits) := by
  unfold Cert.Kernel.defs Cert.KernelIdeal.defs
  exact congrArg (Pipeline.defs (Cert.KernelIdeal.pcfgs (F := Bits))) defs₀_same

/-- and their main functions. -/
theorem main_same : Cert.Kernel.main (F := Bits) = Cert.KernelIdeal.main (F := Bits) := rfl

/-- The kernel, over the machine's floats, ends with its arguments unchanged and every counter at zero. -/
theorem frame_kernel : Cert.quiescent_Kernel (hKernel := Cert.Kernel.Gen.facts) := by
  intro m ρ _
  have h := Cert.RingGemm.run_main (F := Bits) m ρ
  rw [defs_same, main_same]
  exact (θ_run (Cert.KernelIdeal.defs (F := Bits)) _ _).mono (fun _ h => ⟨fun c => ⟨(h.1 c).1, (h.1 c).2.1⟩, h.2⟩) h

end Same

/-- The kernel, over the extended reals, ends with its arguments unchanged and every counter at zero. -/
theorem frame_ideal : Cert.quiescent_KernelIdeal (hKernelIdeal := Cert.KernelIdeal.Gen.facts) := fun m ρ _ =>
  (θ_run (Cert.KernelIdeal.defs (F := Ideal)) _ _).mono (fun _ h => ⟨fun c => ⟨(h.1 c).1, (h.1 c).2.1⟩, h.2⟩)
    (Cert.RingGemm.run_main (F := Ideal) m ρ)

/-- The reference ends with its arguments unchanged; it has no counters. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => ⟨(h c).2.1, (h c).2.2⟩, Idealize.ShloMosaic.sem_eq_zero_of_no_sems (by decide) r.2⟩)
    (Cert.ReferenceIdeal.Value.run (F := Ideal) m ρ)

/-- Over the extended reals each device's result is its block of the reference's result. -/
theorem values : Cert.algebraic_KernelIdeal_ReferenceIdeal (hKernelIdeal := Cert.KernelIdeal.Gen.facts)
    (hReferenceIdeal := Cert.ReferenceIdeal.Gen.facts) := fun m ρ m' ρ' _ hargs =>
  ⟨Cert.RingGemm.refOut _ _,
    (θ_run (Cert.KernelIdeal.defs (F := Ideal)) _ _).mono
      (fun _ h c => ⟨(h.1 c).2.2.trans (Cert.RingGemm.outAt_block _ _ _ _ (fun d => (hargs d).1) (fun d => (hargs d).2) c), (h.1 c).1, (h.1 c).2.1⟩)
      (Cert.RingGemm.run_main (F := Ideal) m ρ),
    (θ_run (Cert.ReferenceIdeal.defs (F := Ideal)) _ _).mono (fun _ h => h 0) (Cert.ReferenceIdeal.Value.run (F := Ideal) m' ρ')⟩

/-- The five claims. -/
theorem claim : Cert.Claim := ⟨Cert.Kernel.Gen.facts, Cert.KernelIdeal.Gen.facts, Cert.ReferenceIdeal.Gen.facts,
  frame_kernel, frame_ideal, frame_reference, trivial, values⟩

end Cert.Proof

end
